-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x64x8192 : Shape := ⟨3, ![4, 64, 8192]⟩
abbrev S4x64x2048 : Shape := ⟨3, ![4, 64, 2048]⟩
abbrev S4x2048 : Shape := ⟨2, ![4, 2048]⟩
abbrev S4x3x2048 : Shape := ⟨3, ![4, 3, 2048]⟩
abbrev S4x3x8192 : Shape := ⟨3, ![4, 3, 8192]⟩
abbrev S64x64 : Shape := ⟨2, ![64, 64]⟩
abbrev S64 : Shape := ⟨1, ![64]⟩
abbrev S64x128 : Shape := ⟨2, ![64, 128]⟩
abbrev S_ : Shape := ⟨0, ![]⟩
abbrev S4x8192 : Shape := ⟨2, ![4, 8192]⟩
abbrev S4x8192x1 : Shape := ⟨3, ![4, 8192, 1]⟩
abbrev S4x1x2048 : Shape := ⟨3, ![4, 1, 2048]⟩
abbrev S4x8192x2048 : Shape := ⟨3, ![4, 8192, 2048]⟩
abbrev S4x8192x4 : Shape := ⟨3, ![4, 8192, 4]⟩
abbrev S4x8192x3 : Shape := ⟨3, ![4, 8192, 3]⟩

class Facts : Prop where
  bcast_S_S4x64x2048 : S_.BroadcastsInDim S4x64x2048 (![] : Fin 0 → Fin S4x64x2048.rank)
  reducesTo_S4x64x2048_S_d0_1_2 : S4x64x2048.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  reducesTo_S4x64x8192_S4x8192_d1 : S4x64x8192.ReducesTo [1] S4x8192
  bcast_S4x8192_S4x8192x1_0_1 : S4x8192.BroadcastsInDim S4x8192x1 (![0, 1] : Fin 2 → Fin S4x8192x1.rank)
  reducesTo_S4x64x2048_S4x2048_d1 : S4x64x2048.ReducesTo [1] S4x2048
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  sliceFits_S4x8192x2048_S4x8192x4 : S4x8192x2048.Slices (fun _ => 0) S4x8192x4
  slices_S4x8192x4_S4x8192x3_0_0_1 : S4x8192x4.Slices ![0, 0, 1] S4x8192x3
  slices_S4x8192x4_S4x8192x3_0_0_0 : S4x8192x4.Slices ![0, 0, 0] S4x8192x3
  reducesTo_S4x8192x3_S_d0_1_2 : S4x8192x3.ReducesTo [0, 1, 2] S_
  dot_S4x64x8192_S4x64x2048_S4x8192x2048_1_1_2_2_0_0_wf : DotDims.WF S4x64x8192 S4x64x2048 S4x8192x2048 [1] [1] [2] [2] [0] [0]

variable [Facts]

def dot_S4x64x8192_S4x64x2048_S4x8192x2048_1_1_2_2_0_0 : DotDims S4x64x8192 S4x64x2048 S4x8192x2048 where
  lhsContracting := [1]
  rhsContracting := [1]
  lhsNonContracting := [2]
  rhsNonContracting := [2]
  lhsBatch := [0]
  rhsBatch := [0]
  wf := dot_S4x64x8192_S4x64x2048_S4x8192x2048_1_1_2_2_0_0_wf
def fn_part2 {F : FTy → Type} [FloatOps F] (main_v3 : IVec S_ 1) (main_v7 : IVec S_ 1) (main_v11 : IVec S_ 1) (main_v15 : IVec S_ 1) (main_v19 : IVec S_ 1) (main_v32 : FVec F S4x8192x2048 .f32) (main_v33 : FVec F S4x8192x2048 .f32) : IVec S_ 1 :=
  let main_v34 : FVec F S4x8192x2048 .f32 := maximumf main_v32 main_v33
  let main_v35 : FVec F S4x8192x2048 .f32 := Host.negf main_v34
  let main_values : FVec F S4x8192x4 .f32 := (fun x => (Host.topK S4x8192x4 2 (FloatOps.cmpfTotal .gt) x sliceFits_S4x8192x2048_S4x8192x4).1) main_v35
  let main_indices : IVec S4x8192x4 32 := (fun x => (Host.topK S4x8192x4 2 (FloatOps.cmpfTotal .gt) x sliceFits_S4x8192x2048_S4x8192x4).2) main_v35
  let main_v36 : FVec F S4x8192x3 .f32 := (extractStridedSlice S4x8192x3 ![0, 0, 1] · slices_S4x8192x4_S4x8192x3_0_0_1) main_values
  let main_v37 : FVec F S4x8192x3 .f32 := (extractStridedSlice S4x8192x3 ![0, 0, 0] · slices_S4x8192x4_S4x8192x3_0_0_0) main_values
  let main_v38 : IVec S4x8192x3 1 := cmpf .olt main_v36 main_v37
  let main_c_12 : IVec S_ 1 := constantI S_ 1 1#1
  let main_v39 : IVec S_ 1 := (fun x v => Host.reduce IntOp.andi x v reducesTo_S4x8192x3_S_d0_1_2 h_S_) main_v38 main_c_12
  let main_v40 : IVec S_ 1 := andi main_v39 main_v3
  let main_v41 : IVec S_ 1 := andi main_v40 main_v7
  let main_v42 : IVec S_ 1 := andi main_v41 main_v11
  let main_v43 : IVec S_ 1 := andi main_v42 main_v15
  let main_v44 : IVec S_ 1 := andi main_v43 main_v19
  main_v44

def fn_part1 {F : FTy → Type} [FloatOps F] (main_arg0 : FVec F S4x64x8192 .f32) (main_arg1 : FVec F S4x64x2048 .f32) (main_arg10 : FVec F S64x128 .f32) (main_v3 : IVec S_ 1) (main_v7 : IVec S_ 1) (main_v11 : IVec S_ 1) (main_v15 : IVec S_ 1) : IVec S_ 1 :=
  let main_v16 : FVec F S64x128 .f32 := Host.absf main_arg10
  let main_cst_6 : FVec F S_ .f32 := constant S_ .f32 0x7F800000#32
  let main_v17 : FVec F S64x128 .f32 := broadcastInDim S64x128 ![] bcast_S_S64x128 main_cst_6
  let main_v18 : IVec S64x128 1 := cmpf .olt main_v16 main_v17
  let main_c_7 : IVec S_ 1 := constantI S_ 1 1#1
  let main_v19 : IVec S_ 1 := (fun x v => Host.reduce IntOp.andi x v reducesTo_S64x128_S_d0_1 h_S_) main_v18 main_c_7
  let main_v20 : FVec F S4x64x8192 .f32 := mulf main_arg0 main_arg0
  let main_cst_8 : FVec F S_ .f32 := constant S_ .f32 0x00000000#32
  let main_v21 : FVec F S4x8192 .f32 := (fun x v => Host.reduceAdd x v reducesTo_S4x64x8192_S4x8192_d1 h_S_) main_v20 main_cst_8
  let main_v22 : FVec F S4x8192x1 .f32 := broadcastInDim S4x8192x1 ![0, 1] bcast_S4x8192_S4x8192x1_0_1 main_v21
  let main_v23 : FVec F S4x64x2048 .f32 := mulf main_arg1 main_arg1
  let main_cst_9 : FVec F S_ .f32 := constant S_ .f32 0x00000000#32
  let main_v24 : FVec F S4x2048 .f32 := (fun x v => Host.reduceAdd x v reducesTo_S4x64x2048_S4x2048_d1 h_S_) main_v23 main_cst_9
  let main_v25 : FVec F S4x1x2048 .f32 := broadcastInDim S4x1x2048 ![0, 2] bcast_S4x2048_S4x1x2048_0_2 main_v24
  let main_v26 : FVec F S4x8192x2048 .f32 := (fun l r => Host.dotGeneral dot_S4x64x8192_S4x64x2048_S4x8192x2048_1_1_2_2_0_0 none l r) main_arg0 main_arg1
  let main_v27 : FVec F S4x8192x2048 .f32 := broadcastInDim S4x8192x2048 ![0, 1, 2] bcast_S4x8192x1_S4x8192x2048_0_1_2 main_v22
  let main_v28 : FVec F S4x8192x2048 .f32 := broadcastInDim S4x8192x2048 ![0, 1, 2] bcast_S4x1x2048_S4x8192x2048_0_1_2 main_v25
  let main_v29 : FVec F S4x8192x2048 .f32 := addf main_v27 main_v28
  let main_cst_10 : FVec F S_ .f32 := constant S_ .f32 0x40000000#32
  let main_v30 : FVec F S4x8192x2048 .f32 := broadcastInDim S4x8192x2048 ![] bcast_S_S4x8192x2048 main_cst_10
  let main_v31 : FVec F S4x8192x2048 .f32 := mulf main_v30 main_v26
  let main_v32 : FVec F S4x8192x2048 .f32 := subf main_v29 main_v31
  let main_cst_11 : FVec F S_ .f32 := constant S_ .f32 0x00000000#32
  let main_v33 : FVec F S4x8192x2048 .f32 := broadcastInDim S4x8192x2048 ![] bcast_S_S4x8192x2048 main_cst_11
  fn_part2 (F := F) main_v3 main_v7 main_v11 main_v15 main_v19 main_v32 main_v33

def fn {F : FTy → Type} [FloatOps F] (main_arg0 : FVec F S4x64x8192 .f32) (main_arg1 : FVec F S4x64x2048 .f32) (main_arg2 : IVec S4x2048 32) (main_arg3 : FVec F S4x3x2048 .f32) (main_arg4 : FVec F S4x64x2048 .f32) (main_arg5 : IVec S4x2048 32) (main_arg6 : FVec F S4x3x8192 .f32) (main_arg7 : FVec F S64x64 .f32) (main_arg8 : FVec F S64 .f32) (main_arg9 : FVec F S64 .f32) (main_arg10 : FVec F S64x128 .f32) (main_arg11 : FVec F S64 .f32) (main_arg12 : FVec F S64 .f32) : IVec S_ 1 :=
  let main_v0 : FVec F S4x64x2048 .f32 := Host.absf main_arg1
  let main_cst : FVec F S_ .f32 := constant S_ .f32 0x7F800000#32
  let main_v1 : FVec F S4x64x2048 .f32 := broadcastInDim S4x64x2048 ![] bcast_S_S4x64x2048 main_cst
  let main_v2 : IVec S4x64x2048 1 := cmpf .olt main_v0 main_v1
  let main_c : IVec S_ 1 := constantI S_ 1 1#1
  let main_v3 : IVec S_ 1 := (fun x v => Host.reduce IntOp.andi x v reducesTo_S4x64x2048_S_d0_1_2 h_S_) main_v2 main_c
  let main_v4 : FVec F S64x64 .f32 := Host.absf main_arg7
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : FVec F S64 .f32 := Host.absf main_arg8
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S64 .f32 := Host.absf main_arg9
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg0 main_arg1 main_arg10 main_v3 main_v7 main_v11 main_v15
-- ==== Kernel.lean ====
abbrev S4x64x8192 : Shape := ⟨3, ![4, 64, 8192]⟩
abbrev S4x64x2048 : Shape := ⟨3, ![4, 64, 2048]⟩
abbrev S4x2048 : Shape := ⟨2, ![4, 2048]⟩
abbrev S4x3x2048 : Shape := ⟨3, ![4, 3, 2048]⟩
abbrev S4x3x8192 : Shape := ⟨3, ![4, 3, 8192]⟩
abbrev S64x64 : Shape := ⟨2, ![64, 64]⟩
abbrev S64 : Shape := ⟨1, ![64]⟩
abbrev S64x128 : Shape := ⟨2, ![64, 128]⟩
abbrev S64x1 : Shape := ⟨2, ![64, 1]⟩
abbrev S1x64x2048 : Shape := ⟨3, ![1, 64, 2048]⟩
abbrev S64x2048 : Shape := ⟨2, ![64, 2048]⟩
abbrev S4x64x2 : Shape := ⟨3, ![4, 64, 2]⟩
abbrev S1x64x256 : Shape := ⟨3, ![1, 64, 256]⟩
abbrev S1x64x2 : Shape := ⟨3, ![1, 64, 2]⟩
abbrev S64x256 : Shape := ⟨2, ![64, 256]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x128 : Shape := ⟨2, ![256, 128]⟩
abbrev S256x64 : Shape := ⟨2, ![256, 64]⟩
abbrev S64x2 : Shape := ⟨2, ![64, 2]⟩
abbrev S1x64x8192 : Shape := ⟨3, ![1, 64, 8192]⟩
abbrev S4x64x1 : Shape := ⟨3, ![4, 64, 1]⟩
abbrev S64x8192 : Shape := ⟨2, ![64, 8192]⟩

abbrev nBuf : Space → Nat
  | .hbm => 21
  | .vmem => 23
  | .smem => 0
  | _ => 0

abbrev bufTy : (tb : Table) → Fin (tcTables nBuf tb) → BufTy
  | .hbm, ⟨0, _⟩ => ⟨S4x64x8192, .f32⟩
  | .hbm, ⟨1, _⟩ => ⟨S4x64x2048, .f32⟩
  | .hbm, ⟨2, _⟩ => ⟨S4x2048, .i32⟩
  | .hbm, ⟨3, _⟩ => ⟨S4x3x2048, .f32⟩
  | .hbm, ⟨4, _⟩ => ⟨S4x64x2048, .f32⟩
  | .hbm, ⟨5, _⟩ => ⟨S4x2048, .i32⟩
  | .hbm, ⟨6, _⟩ => ⟨S4x3x8192, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64x128, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S4x64x2048, .f32⟩
  | .hbm, ⟨18, _⟩ => ⟨S4x64x8192, .f32⟩
  | .hbm, ⟨19, _⟩ => ⟨S4x64x2, .f32⟩
  | .hbm, ⟨20, _⟩ => ⟨S4x64x8192, .f32⟩
  | .local _ .vmem, ⟨0, _⟩ => ⟨S4x64x2048, .f32⟩
  | .local _ .vmem, ⟨1, _⟩ => ⟨S64x64, .f32⟩
  | .local _ .vmem, ⟨2, _⟩ => ⟨S64x1, .f32⟩
  | .local _ .vmem, ⟨3, _⟩ => ⟨S64x1, .f32⟩
  | .local _ .vmem, ⟨4, _⟩ => ⟨S4x64x2048, .f32⟩
  | .local _ .vmem, ⟨5, _⟩ => ⟨S1x64x256, .f32⟩
  | .local _ .vmem, ⟨6, _⟩ => ⟨S1x64x256, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S64x128, .f32⟩
  | .local _ .vmem, ⟨12, _⟩ => ⟨S1x64x256, .f32⟩
  | .local _ .vmem, ⟨13, _⟩ => ⟨S1x64x256, .f32⟩
  | .local _ .vmem, ⟨14, _⟩ => ⟨S1x64x2, .f32⟩
  | .local _ .vmem, ⟨15, _⟩ => ⟨S1x64x2, .f32⟩
  | .local _ .vmem, ⟨16, _⟩ => ⟨S1x64x8192, .f32⟩
  | .local _ .vmem, ⟨17, _⟩ => ⟨S1x64x8192, .f32⟩
  | .local _ .vmem, ⟨18, _⟩ => ⟨S4x64x2, .f32⟩
  | .local _ .vmem, ⟨19, _⟩ => ⟨S64x1, .f32⟩
  | .local _ .vmem, ⟨20, _⟩ => ⟨S64x1, .f32⟩
  | .local _ .vmem, ⟨21, _⟩ => ⟨S1x64x8192, .f32⟩
  | .local _ .vmem, ⟨22, _⟩ => ⟨S1x64x8192, .f32⟩
  | _, _ => ⟨S4x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := .none

abbrev stage0_0 : Fin 1 → Memref sig .tc .vmem S4x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![4, 32], ![false, false]⟩

def k1_cond1 (i : grid1.Coords) : BitVec 1 :=
  let arg1 : BitVec 32 := BitVec.ofNat 32 (i 1).val
  let c0_i32 : BitVec 32 := 0#32
  let v174 : BitVec 1 := Scalar.cmpi .eq arg1 c0_i32
  let v175 : BitVec 32 := Scalar.extui v174
  let c0_i32_37 : BitVec 32 := 0#32
  let v176 : BitVec 1 := Scalar.cmpi .ne v175 c0_i32_37
  v176

def k1_cond2 (i : grid1.Coords) : BitVec 1 :=
  let arg1 : BitVec 32 := BitVec.ofNat 32 (i 1).val
  let c0_i32 : BitVec 32 := 0#32
  let v174 : BitVec 1 := Scalar.cmpi .eq arg1 c0_i32
  let v_true : BitVec 1 := 1#1
  let v177 : BitVec 1 := Scalar.xori v174 v_true
  let v178 : BitVec 32 := Scalar.extui v177
  let c0_i32_38 : BitVec 32 := 0#32
  let v179 : BitVec 1 := Scalar.cmpi .ne v178 c0_i32_38
  v179

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x64x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x64x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S4x64x8192 : Shape := ⟨3, ![4, 64, 8192]⟩
abbrev S4x64x2048 : Shape := ⟨3, ![4, 64, 2048]⟩
abbrev S4x2048 : Shape := ⟨2, ![4, 2048]⟩
abbrev S4x3x2048 : Shape := ⟨3, ![4, 3, 2048]⟩
abbrev S4x3x8192 : Shape := ⟨3, ![4, 3, 8192]⟩
abbrev S64x64 : Shape := ⟨2, ![64, 64]⟩
abbrev S64 : Shape := ⟨1, ![64]⟩
abbrev S64x128 : Shape := ⟨2, ![64, 128]⟩
abbrev S4x2048x64 : Shape := ⟨3, ![4, 2048, 64]⟩
abbrev S_ : Shape := ⟨0, ![]⟩
abbrev S1x64x1 : Shape := ⟨3, ![1, 64, 1]⟩
abbrev S4x8192 : Shape := ⟨2, ![4, 8192]⟩
abbrev S4x8192x1 : Shape := ⟨3, ![4, 8192, 1]⟩
abbrev S4x1x2048 : Shape := ⟨3, ![4, 1, 2048]⟩
abbrev S4x8192x2048 : Shape := ⟨3, ![4, 8192, 2048]⟩
abbrev S4x8192x3 : Shape := ⟨3, ![4, 8192, 3]⟩
abbrev S4x64x1x2048 : Shape := ⟨4, ![4, 64, 1, 2048]⟩
abbrev S4x1x8192x3 : Shape := ⟨4, ![4, 1, 8192, 3]⟩
abbrev S4x8192x3x1 : Shape := ⟨4, ![4, 8192, 3, 1]⟩
abbrev S1 : Shape := ⟨1, ![1]⟩
abbrev S1x1x1x1 : Shape := ⟨4, ![1, 1, 1, 1]⟩
abbrev S4x64x8192x3 : Shape := ⟨4, ![4, 64, 8192, 3]⟩
abbrev S4x128x8192 : Shape := ⟨3, ![4, 128, 8192]⟩
abbrev S4x8192x64 : Shape := ⟨3, ![4, 8192, 64]⟩

abbrev nBuf : Space → Nat
  | .hbm => 185
  | .vmem => 0
  | .smem => 0
  | _ => 0

abbrev hbmTy0_0 (i : Nat) : BufTy := match i % 128 with
  | 0 => ⟨S4x64x8192, .f32⟩
  | 1 => ⟨S4x64x2048, .f32⟩
  | 2 => ⟨S4x2048, .i32⟩
  | 3 => ⟨S4x3x2048, .f32⟩
  | 4 => ⟨S4x64x2048, .f32⟩
  | 5 => ⟨S4x2048, .i32⟩
  | 6 => ⟨S4x3x8192, .f32⟩
  | 7 => ⟨S64x64, .f32⟩
  | 8 => ⟨S64, .f32⟩
  | 9 => ⟨S64, .f32⟩
  | 10 => ⟨S64x128, .f32⟩
  | 11 => ⟨S64, .f32⟩
  | 12 => ⟨S64, .f32⟩
  | 13 => ⟨S4x2048x64, .f32⟩
  | 14 => ⟨S4x64x2048, .f32⟩
  | 15 => ⟨S_, .f32⟩
  | 16 => ⟨S64, .f32⟩
  | 17 => ⟨S1x64x1, .f32⟩
  | 18 => ⟨S_, .f32⟩
  | 19 => ⟨S1x64x1, .f32⟩
  | 20 => ⟨S1x64x1, .f32⟩
  | 21 => ⟨S_, .i32⟩
  | 22 => ⟨S_, .f32⟩
  | 23 => ⟨S64, .f32⟩
  | 24 => ⟨S1x64x1, .f32⟩
  | 25 => ⟨S_, .f32⟩
  | 26 => ⟨S1x64x1, .f32⟩
  | 27 => ⟨S1x64x1, .f32⟩
  | 28 => ⟨S4x64x2048, .f32⟩
  | 29 => ⟨S4x64x2048, .f32⟩
  | 30 => ⟨S4x64x2048, .f32⟩
  | 31 => ⟨S_, .f32⟩
  | 32 => ⟨S_, .f32⟩
  | 33 => ⟨S_, .f32⟩
  | 34 => ⟨S_, .f32⟩
  | 35 => ⟨S64, .f32⟩
  | 36 => ⟨S1x64x1, .f32⟩
  | 37 => ⟨S1x64x1, .f32⟩
  | 38 => ⟨S1x64x1, .f32⟩
  | 39 => ⟨S_, .f32⟩
  | 40 => ⟨S_, .i1⟩
  | 41 => ⟨S_, .f32⟩
  | 42 => ⟨S_, .f32⟩
  | 43 => ⟨S1x64x1, .f32⟩
  | 44 => ⟨S1x64x1, .f32⟩
  | 45 => ⟨S1x64x1, .f32⟩
  | 46 => ⟨S4x64x2048, .f32⟩
  | 47 => ⟨S4x64x2048, .f32⟩
  | 48 => ⟨S4x64x2048, .f32⟩
  | 49 => ⟨S4x64x2048, .f32⟩
  | 50 => ⟨S_, .f32⟩
  | 51 => ⟨S1x64x1, .f32⟩
  | 52 => ⟨S1x64x1, .f32⟩
  | 53 => ⟨S1x64x1, .f32⟩
  | 54 => ⟨S4x64x2048, .f32⟩
  | 55 => ⟨S4x64x2048, .f32⟩
  | 56 => ⟨S1x64x1, .f32⟩
  | 57 => ⟨S4x64x2048, .f32⟩
  | 58 => ⟨S4x64x2048, .f32⟩
  | 59 => ⟨S_, .f32⟩
  | 60 => ⟨S4x64x2048, .f32⟩
  | 61 => ⟨S4x64x2048, .i1⟩
  | 62 => ⟨S_, .f32⟩
  | 63 => ⟨S4x64x2048, .f32⟩
  | 64 => ⟨S4x64x2048, .f32⟩
  | 65 => ⟨S4x64x2048, .f32⟩
  | 66 => ⟨S4x64x8192, .f32⟩
  | 67 => ⟨S_, .f32⟩
  | 68 => ⟨S4x8192, .f32⟩
  | 69 => ⟨S4x8192x1, .f32⟩
  | 70 => ⟨S4x64x2048, .f32⟩
  | 71 => ⟨S_, .f32⟩
  | 72 => ⟨S4x2048, .f32⟩
  | 73 => ⟨S4x1x2048, .f32⟩
  | 74 => ⟨S4x8192x2048, .f32⟩
  | 75 => ⟨S4x8192x2048, .f32⟩
  | 76 => ⟨S4x8192x2048, .f32⟩
  | 77 => ⟨S4x8192x2048, .f32⟩
  | 78 => ⟨S_, .f32⟩
  | 79 => ⟨S4x8192x2048, .f32⟩
  | 80 => ⟨S4x8192x2048, .f32⟩
  | 81 => ⟨S4x8192x2048, .f32⟩
  | 82 => ⟨S_, .f32⟩
  | 83 => ⟨S4x8192x2048, .f32⟩
  | 84 => ⟨S4x8192x2048, .f32⟩
  | 85 => ⟨S4x8192x2048, .f32⟩
  | 86 => ⟨S4x8192x3, .f32⟩
  | 87 => ⟨S4x8192x3, .i32⟩
  | 88 => ⟨S4x8192x3, .f32⟩
  | 89 => ⟨S4x64x1x2048, .f32⟩
  | 90 => ⟨S4x1x8192x3, .i32⟩
  | 91 => ⟨S_, .i32⟩
  | 92 => ⟨S4x1x8192x3, .i32⟩
  | 93 => ⟨S4x1x8192x3, .i1⟩
  | 94 => ⟨S_, .i32⟩
  | 95 => ⟨S4x1x8192x3, .i32⟩
  | 96 => ⟨S4x1x8192x3, .i32⟩
  | 97 => ⟨S4x1x8192x3, .i32⟩
  | 98 => ⟨S4x8192x3x1, .i32⟩
  | 99 => ⟨S4x64x2048, .f32⟩
  | 100 => ⟨S1, .i32⟩
  | 101 => ⟨S_, .i32⟩
  | 102 => ⟨S4x8192x3x1, .i32⟩
  | 103 => ⟨S4x8192x3x1, .i1⟩
  | 104 => ⟨S1x1x1x1, .i32⟩
  | 105 => ⟨S4x8192x3x1, .i32⟩
  | 106 => ⟨S4x8192x3x1, .i1⟩
  | 107 => ⟨S4x8192x3x1, .i1⟩
  | 108 => ⟨S_, .i1⟩
  | 109 => ⟨S4x8192x3, .i1⟩
  | 110 => ⟨S4x64x8192x3, .f32⟩
  | 111 => ⟨S4x64x8192x3, .i1⟩
  | 112 => ⟨S_, .f32⟩
  | 113 => ⟨S4x64x8192x3, .f32⟩
  | 114 => ⟨S4x64x8192x3, .f32⟩
  | 115 => ⟨S_, .f32⟩
  | 116 => ⟨S4x8192x3, .f32⟩
  | 117 => ⟨S4x8192x3, .f32⟩
  | 118 => ⟨S_, .f32⟩
  | 119 => ⟨S4x8192x3, .f32⟩
  | 120 => ⟨S4x8192x3, .f32⟩
  | 121 => ⟨S_, .f32⟩
  | 122 => ⟨S4x8192, .f32⟩
  | 123 => ⟨S4x8192x1, .f32⟩
  | 124 => ⟨S4x8192x3, .f32⟩
  | 125 => ⟨S4x8192x3, .f32⟩
  | 126 => ⟨S4x1x8192x3, .f32⟩
  | 127 => ⟨S4x64x8192x3, .f32⟩
  | _ => ⟨S4x64x8192, .f32⟩

abbrev hbmTy0_1 (i : Nat) : BufTy := match i % 128 with
  | 0 => ⟨S4x64x8192x3, .f32⟩
  | 1 => ⟨S_, .f32⟩
  | 2 => ⟨S4x64x8192, .f32⟩
  | 3 => ⟨S4x128x8192, .f32⟩
  | 4 => ⟨S4x8192x64, .f32⟩
  | 5 => ⟨S4x64x8192, .f32⟩
  | 6 => ⟨S_, .f32⟩
  | 7 => ⟨S64, .f32⟩
  | 8 => ⟨S1x64x1, .f32⟩
  | 9 => ⟨S_, .f32⟩
  | 10 => ⟨S1x64x1, .f32⟩
  | 11 => ⟨S1x64x1, .f32⟩
  | 12 => ⟨S_, .i32⟩
  | 13 => ⟨S_, .f32⟩
  | 14 => ⟨S64, .f32⟩
  | 15 => ⟨S1x64x1, .f32⟩
  | 16 => ⟨S_, .f32⟩
  | 17 => ⟨S1x64x1, .f32⟩
  | 18 => ⟨S1x64x1, .f32⟩
  | 19 => ⟨S4x64x8192, .f32⟩
  | 20 => ⟨S4x64x8192, .f32⟩
  | 21 => ⟨S4x64x8192, .f32⟩
  | 22 => ⟨S_, .f32⟩
  | 23 => ⟨S_, .f32⟩
  | 24 => ⟨S_, .f32⟩
  | 25 => ⟨S_, .f32⟩
  | 26 => ⟨S64, .f32⟩
  | 27 => ⟨S1x64x1, .f32⟩
  | 28 => ⟨S1x64x1, .f32⟩
  | 29 => ⟨S1x64x1, .f32⟩
  | 30 => ⟨S_, .f32⟩
  | 31 => ⟨S_, .i1⟩
  | 32 => ⟨S_, .f32⟩
  | 33 => ⟨S_, .f32⟩
  | 34 => ⟨S1x64x1, .f32⟩
  | 35 => ⟨S1x64x1, .f32⟩
  | 36 => ⟨S1x64x1, .f32⟩
  | 37 => ⟨S4x64x8192, .f32⟩
  | 38 => ⟨S4x64x8192, .f32⟩
  | 39 => ⟨S4x64x8192, .f32⟩
  | 40 => ⟨S4x64x8192, .f32⟩
  | 41 => ⟨S_, .f32⟩
  | 42 => ⟨S1x64x1, .f32⟩
  | 43 => ⟨S1x64x1, .f32⟩
  | 44 => ⟨S1x64x1, .f32⟩
  | 45 => ⟨S4x64x8192, .f32⟩
  | 46 => ⟨S4x64x8192, .f32⟩
  | 47 => ⟨S1x64x1, .f32⟩
  | 48 => ⟨S4x64x8192, .f32⟩
  | 49 => ⟨S4x64x8192, .f32⟩
  | 50 => ⟨S_, .f32⟩
  | 51 => ⟨S4x64x8192, .f32⟩
  | 52 => ⟨S4x64x8192, .i1⟩
  | 53 => ⟨S_, .f32⟩
  | 54 => ⟨S4x64x8192, .f32⟩
  | 55 => ⟨S4x64x8192, .f32⟩
  | 56 => ⟨S4x64x8192, .f32⟩
  | _ => ⟨S4x64x8192, .f32⟩

abbrev hbmTy (i : Nat) : BufTy := match i / 128 with
  | 0 => hbmTy0_0 i
  | 1 => hbmTy0_1 i
  | _ => ⟨S4x64x8192, .f32⟩

abbrev bufTy : (tb : Table) → Fin (tcTables nBuf tb) → BufTy
  | .hbm, ⟨i, _⟩ => hbmTy i
  | _, _ => ⟨S4x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_2 : Ref sig .tc := ⟨.hbm, 59, rfl⟩
abbrev main_v20 : Ref sig .tc := ⟨.hbm, 60, rfl⟩
abbrev main_v21 : Ref sig .tc := ⟨.hbm, 61, rfl⟩
abbrev main_cst_3 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_4 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_5 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_6 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_7 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_values : Ref sig .tc := ⟨.hbm, 86, rfl⟩
abbrev main_indices : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_c_1 : Ref sig .tc := ⟨.hbm, 100, rfl⟩
abbrev main_call2_c_2 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_c_3 : Ref sig .tc := ⟨.hbm, 108, rfl⟩
abbrev main_call2_v13 : Ref sig .tc := ⟨.hbm, 109, rfl⟩
abbrev main_call2_v14 : Ref sig .tc := ⟨.hbm, 110, rfl⟩
abbrev main_call2_v15 : Ref sig .tc := ⟨.hbm, 111, rfl⟩
abbrev main_call2_cst : Ref sig .tc := ⟨.hbm, 112, rfl⟩
abbrev main_call2_v16 : Ref sig .tc := ⟨.hbm, 113, rfl⟩
abbrev main_v44 : Ref sig .tc := ⟨.hbm, 114, rfl⟩
abbrev main_cst_8 : Ref sig .tc := ⟨.hbm, 115, rfl⟩
abbrev main_v45 : Ref sig .tc := ⟨.hbm, 116, rfl⟩
abbrev main_v46 : Ref sig .tc := ⟨.hbm, 117, rfl⟩
abbrev main_cst_9 : Ref sig .tc := ⟨.hbm, 118, rfl⟩
abbrev main_v47 : Ref sig .tc := ⟨.hbm, 119, rfl⟩
abbrev main_v48 : Ref sig .tc := ⟨.hbm, 120, rfl⟩
abbrev main_cst_10 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_11 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_cst_12 : Ref sig .tc := ⟨.hbm, 134, rfl⟩
abbrev main_v60 : Ref sig .tc := ⟨.hbm, 135, rfl⟩
abbrev main_v61 : Ref sig .tc := ⟨.hbm, 136, rfl⟩
abbrev main_cst_13 : Ref sig .tc := ⟨.hbm, 137, rfl⟩
abbrev main_v62 : Ref sig .tc := ⟨.hbm, 138, rfl⟩
abbrev main_v63 : Ref sig .tc := ⟨.hbm, 139, rfl⟩
abbrev main_c_14 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_cst_1 : Ref sig .tc := ⟨.hbm, 151, rfl⟩
abbrev main_call3_v8 : Ref sig .tc := ⟨.hbm, 152, rfl⟩
abbrev main_call3_cst_2 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_v12 : Ref sig .tc := ⟨.hbm, 157, rfl⟩
abbrev main_call3_cst_3 : Ref sig .tc := ⟨.hbm, 158, rfl⟩
abbrev main_call3_v13 : Ref sig .tc := ⟨.hbm, 159, rfl⟩
abbrev main_call3_cst_4 : Ref sig .tc := ⟨.hbm, 160, rfl⟩
abbrev main_call3_call0_v0 : Ref sig .tc := ⟨.hbm, 161, rfl⟩
abbrev main_call3_call0_v1 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_cst_15 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_cst_16 : Ref sig .tc := ⟨.hbm, 178, rfl⟩
abbrev main_v78 : Ref sig .tc := ⟨.hbm, 179, rfl⟩
abbrev main_v79 : Ref sig .tc := ⟨.hbm, 180, rfl⟩
abbrev main_cst_17 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩

abbrev nD : Nat := 1
abbrev τ : Topo := Topo.v7x

variable {F : FTy → Type} [FloatOps F]
-- ==== Proof.Region0.lean ====
/-
  The first kernel call (1×1 convolution, batch normalisation and leaky activation of the coarse points'
  features) as a pipeline of one grid point: what its body leaves in the output's staging buffer, the triple of
  the body, and the proof data of the call entered from any contents `V` of the arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.UnfoldOut

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The rectangles the body loads and stores through: the weights, -/
abbrev rW : Rect S64x64 := Rect.unit (s := S64x64) ![0, 0] S64x64.size inb_S64x64_S64x64_0_0
/-- batch zero of the points, -/
abbrev rX0 : Rect S4x64x2048 := Rect.unit (s := S4x64x2048) ![0, 0, 0] S1x64x2048.size inb_S4x64x2048_S1x64x2048_0_0_0
/-- batch one, -/
abbrev rX1 : Rect S4x64x2048 := Rect.unit (s := S4x64x2048) ![1, 0, 0] S1x64x2048.size inb_S4x64x2048_S1x64x2048_1_0_0
/-- batch two, -/
abbrev rX2 : Rect S4x64x2048 := Rect.unit (s := S4x64x2048) ![2, 0, 0] S1x64x2048.size inb_S4x64x2048_S1x64x2048_2_0_0
/-- batch three, -/
abbrev rX3 : Rect S4x64x2048 := Rect.unit (s := S4x64x2048) ![3, 0, 0] S1x64x2048.size inb_S4x64x2048_S1x64x2048_3_0_0
/-- and a column. -/
abbrev rG : Rect S64x1 := Rect.unit (s := S64x1) ![0, 0] S64x1.size inb_S64x1_S64x1_0_0

section Out
variable (x0 : Vec F S4x64x2048 .f32) (x1 : Vec F S64x64 .f32) (x2 : Vec F S64x1 .f32) (x3 : Vec F S64x1 .f32)

/-- The running sum over the first three batches. -/
def sum3 : FVec F S64x1 .f32 := k0_pay5 (View.ld x1 rW) (View.ld x0 rX0) (View.ld x0 rX1) (View.ld x0 rX2)
/-- The running sum of squares over the first three batches. -/
def sq3 : FVec F S64x1 .f32 := k0_pay6 (View.ld x1 rW) (View.ld x0 rX0) (View.ld x0 rX1) (View.ld x0 rX2)
/-- The mean over all four batches and all points. -/
def mean : FVec F S64x1 .f32 := k0_pay9 (View.ld x1 rW) (sum3 x0 x1) (k0_pay7 (View.ld x0 rX3))
/-- The scale: the weight over the root of the variance. -/
def scale : FVec F S64x1 .f32 :=
  k0_pay10 (View.ld x1 rW) (sum3 x0 x1) (sq3 x0 x1) (k0_pay7 (View.ld x0 rX3)) (View.ld x2 rG)

/-- The payloads of the four stores, a batch each. -/
def piece0 : FVec F S1x64x2048 .f32 :=
  k0_pay11 (View.ld x1 rW) (k0_pay2 (View.ld x1 rW) (View.ld x0 rX0)) (sum3 x0 x1) (sq3 x0 x1) (k0_pay7 (View.ld x0 rX3)) (View.ld x2 rG) (View.ld x3 rG)
/-- The same for batch one, -/
def piece1 : FVec F S1x64x2048 .f32 :=
  k0_pay14 (k0_pay12 (View.ld x1 rW) (k0_pay3 (View.ld x1 rW) (View.ld x0 rX1)) (sum3 x0 x1) (sq3 x0 x1) (k0_pay7 (View.ld x0 rX3)) (View.ld x2 rG)) (k0_pay13 (View.ld x3 rG))
/-- for batch two, -/
def piece2 : FVec F S1x64x2048 .f32 :=
  k0_pay15 (k0_pay4 (View.ld x1 rW) (View.ld x0 rX2)) (mean x0 x1) (scale x0 x1 x2) (View.ld x3 rG)
/-- and for batch three. -/
def piece3 : FVec F S1x64x2048 .f32 :=
  k0_pay1 (k0_pay16 (k0_pay8 (View.ld x1 rW) (k0_pay7 (View.ld x0 rX3))) (mean x0 x1) (scale x0 x1 x2) (View.ld x3 rG))

/-- What the body leaves in the output's buffer: the four pieces, the last store first. -/
def out : Vec F S4x64x2048 .f32 :=
  View.canon [⟨rX3, piece3 x0 x1 x2 x3⟩, ⟨rX2, piece2 x0 x1 x2 x3⟩, ⟨rX1, piece1 x0 x1 x2 x3⟩, ⟨rX0, piece0 x0 x1 x2 x3⟩]
end Out

/-- The four stores tile the buffer. -/
theorem cover (p0 p1 p2 p3 : Vec F S1x64x2048 .f32) (y : S4x64x2048.Idx) :
    ∃ pc ∈ ([⟨rX3, p0⟩, ⟨rX2, p1⟩, ⟨rX1, p2⟩, ⟨rX0, p3⟩] : List (View.Piece (Elt F) S4x64x2048 .f32)), y ∈ pc.1.set :=
  View.cover_of_tiled [⟨rX3, p0⟩, ⟨rX2, p1⟩, ⟨rX1, p2⟩, ⟨rX0, p3⟩] S1x64x2048.size (by rfl) y

set_option maxHeartbeats 1000000 in
/-- The body on whole staging buffers returns them with the output's at `out` of the inputs'. -/
theorem sound_kernel (c : Dev nD) (E : Set ℕ) (arg0 : Memref sig .tc .vmem S4x64x2048 .f32) (harg0 : arg0.IsWhole) (arg1 : Memref sig .tc .vmem S64x64 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S4x64x2048 .f32) (harg4 : arg4.IsWhole)
    (x0 : Vec F S4x64x2048 .f32) (x1 : Vec F S64x64 .f32) (x2 : Vec F S64x1 .f32) (x3 : Vec F S64x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out x0 x1 x2 x3)) -∗ K ⟨⟩))
      ⊢ wp frame (wpE (defs₀ (F := F)) Variants.none c none) E (cc0__conv_bn_kernel arg0 harg0 arg1 harg1 arg2 harg2 arg3 harg3 arg4 harg4) K := by
  simp only [cc0__conv_bn_kernel_eq_skeleton]; unfold cc0__conv_bn_kernel_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover _ _ _ _)).trans ?_
  rfl

/-! ## The proof data, from any contents of the arrays -/

variable (V : (c : Dev nD) → (b : Ref sig .tc) → Buf (Elt F) ((c : Thread nD τ).loc b))

/-- Window `w`'s block at point `t` of its array at entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: each array as `V` has it, the inputs' buffers left at their blocks, the output's at `out`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec0 c
  q _ := fullShare
  owed _ := 0

/-- Each array starts as `V` has it. -/
theorem A_eq (c : Dev nD) (w : Fin cfg0.W) : (dat V c).A w = V c (Pipeline.arrRef spec0 w) := by dsimp only [dat]
/-- What the body leaves in the first buffer: its block. -/
theorem after_0 (c : Dev nD) (t : Fin cfg0.N) : (dat V c).after 0 t = iblk V c 0 t := by dsimp only [dat]
/-- The same of the second, -/
theorem after_1 (c : Dev nD) (t : Fin cfg0.N) : (dat V c).after 1 t = iblk V c 1 t := by dsimp only [dat]
/-- of the third, -/
theorem after_2 (c : Dev nD) (t : Fin cfg0.N) : (dat V c).after 2 t = iblk V c 2 t := by dsimp only [dat]
/-- and of the fourth. -/
theorem after_3 (c : Dev nD) (t : Fin cfg0.N) : (dat V c).after 3 t = iblk V c 3 t := by dsimp only [dat]
/-- What it leaves in the output's buffer. -/
theorem after_4 (c : Dev nD) (t : Fin cfg0.N) : (dat V c).after 4 t = out (iblk V c 0 t) (iblk V c 1 t) (iblk V c 2 t) (iblk V c 3 t) := by dsimp only [dat]

/-- An input's buffer holds its block at every point: it was fetched, or was left in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The same of the second input, -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- of the third, -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- and of the fourth. -/
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point, from the blocks to `out` of them. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body that the call runs at a point. -/
theorem body_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dat V c) (defs₀ (F := F)) Variants.none () Set.univ := fun t => by
  rw [bigSep_W0, bigSep_W0, body_row]
  exact triple_restated (sound_body V c t) rfl .rfl fun _ => .rfl

end Cert.KernelIdeal.R0

end
-- ==== Proof.Region1.lean ====
/-
  The second kernel call (the three nearest neighbours' interpolation, the second convolution, and the running
  sums of its result) as a pipeline of 4 × 32 grid points, a block of 256 fine points each.  The running sums'
  block stays in its staging buffer over a batch's 32 points: reset at the first, added to at the others.
  What the body leaves in its outputs' buffers, its triple in both cases, and the proof data of the call entered
  from any contents `V` of the arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.WordCmp
public import Idealize.ShloMosaic.Lib.Ring
public import Idealize.ShloMosaic.Lib.Tactic
public import Idealize.ShloMosaic.Lib.UnfoldOut

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The whole-block rectangles the body loads and stores through. -/
abbrev rQ : Rect S1x64x256 := Rect.unit (s := S1x64x256) ![0, 0, 0] S1x64x256.size inb_S1x64x256_S1x64x256_0_0_0
/-- The coarse points' block, -/
abbrev rK : Rect S1x64x2048 := Rect.unit (s := S1x64x2048) ![0, 0, 0] S1x64x2048.size inb_S1x64x2048_S1x64x2048_0_0_0
/-- the weights, -/
abbrev rR : Rect S64x128 := Rect.unit (s := S64x128) ![0, 0] S64x128.size inb_S64x128_S64x128_0_0
/-- and the sums' block. -/
abbrev rT : Rect S1x64x2 := Rect.unit (s := S1x64x2) ![0, 0, 0] S1x64x2.size inb_S1x64x2_S1x64x2_0_0_0

section Out
variable (q : Vec F S1x64x256 .f32) (k : Vec F S1x64x2048 .f32) (p : Vec F S1x64x2048 .f32) (r : Vec F S64x128 .f32)

/-- The squared distances of the block's points to the coarse points. -/
def dist : FVec F S256x2048 .f32 := k1_pay7 q k
/-- The lane-wise three smallest, after two thirds of the chunks: the values the last third starts from. -/
def mid98 : FVec F S256x128 .f32 := k1_pay63 (dist q k) (k1_pay21 q k) (k1_pay24 q k) (k1_pay25 q k)
/-- the second of these values, -/
def mid99 : FVec F S256x128 .f32 :=
  k1_pay64 (dist q k) (k1_pay21 q k) (k1_pay22 q k) (k1_pay24 q k) (k1_pay25 q k) (k1_pay26 q k)
/-- the third, -/
def mid101 : FVec F S256x128 .f32 := k1_pay66 (dist q k) (k1_pay25 q k)
/-- the fourth, -/
def mid102 : FVec F S256x128 .f32 := k1_pay67 (dist q k) (k1_pay25 q k)
/-- and the fifth. -/
def mid103 : FVec F S256x128 .f32 := k1_pay68 (dist q k) (k1_pay21 q k) (k1_pay24 q k) (k1_pay25 q k)
/-- The sum of the three nearest points' inverse distances. -/
def wsum : FVec F S256x1 .f32 := k1_pay83 (dist q k) (mid98 q k) (mid99 q k) (mid101 q k) (mid102 q k) (mid103 q k)
/-- Which coarse points lie within the third least distance. -/
def near : IVec S256x2048 1 := k1_pay84 (dist q k) (mid98 q k) (mid99 q k) (mid101 q k) (mid102 q k) (mid103 q k)

/-- The payload of the store of the convolved block. -/
def payY : FVec F S1x64x256 .f32 :=
  k1_pay2 (k1_pay6 q) (wsum q k) (near q k) (k1_pay85 (dist q k)) (k1_pay86 (F := F)) p r
/-- The payload of the store of the sums at a batch's first point, -/
def payT : FVec F S1x64x2 .f32 :=
  k1_pay4 (k1_pay6 q) (wsum q k) (near q k) (k1_pay85 (dist q k)) (k1_pay86 (F := F)) p r
/-- and at the other points, over what is there. -/
def payU (s : Vec F S1x64x2 .f32) : FVec F S1x64x2 .f32 :=
  k1_pay5 (k1_pay6 q) (wsum q k) (near q k) (k1_pay85 (dist q k)) (k1_pay86 (F := F)) p r s
end Out

section Out
variable (x0 : Vec F S1x64x256 .f32) (x1 : Vec F S1x64x2048 .f32) (x2 : Vec F S1x64x2048 .f32) (x3 : Vec F S64x128 .f32)

/-- What the body leaves in the convolved block's buffer. -/
def outY : Vec F S1x64x256 .f32 := View.canon [⟨rQ, payY (View.ld x0 rQ) (View.ld x1 rK) (View.ld x2 rK) (View.ld x3 rR)⟩]
/-- What it leaves in the sums' buffer at a batch's first point, -/
def outT : Vec F S1x64x2 .f32 := View.canon [⟨rT, payT (View.ld x0 rQ) (View.ld x1 rK) (View.ld x2 rK) (View.ld x3 rR)⟩]
/-- and at the other points, over the buffer's contents `s`. -/
def outU (s : Vec F S1x64x2 .f32) : Vec F S1x64x2 .f32 :=
  View.canon [⟨rT, payU (View.ld x0 rQ) (View.ld x1 rK) (View.ld x2 rK) (View.ld x3 rR) (View.ld s rT)⟩]
end Out

/-- One store covers each buffer. -/
theorem coverY (p : Vec F S1x64x256 .f32) (y : S1x64x256.Idx) :
    ∃ pc ∈ ([⟨rQ, p⟩] : List (View.Piece (Elt F) S1x64x256 .f32)), y ∈ pc.1.set :=
  View.cover_of_tiled [⟨rQ, p⟩] S1x64x256.size (by rfl) y
/-- The same of the sums' buffer. -/
theorem coverT (p : Vec F S1x64x2 .f32) (y : S1x64x2.Idx) :
    ∃ pc ∈ ([⟨rT, p⟩] : List (View.Piece (Elt F) S1x64x2 .f32)), y ∈ pc.1.set :=
  View.cover_of_tiled [⟨rT, p⟩] S1x64x2.size (by rfl) y

/-! ## The two conditionals, in closed form -/

/-- The point is its batch's first, -/
abbrev condA (i : grid1.Coords) : Prop := k1_cond1 i = 1#1
/-- or it is not. -/
abbrev condB (i : grid1.Coords) : Prop := k1_cond2 i = 1#1

/-- The first condition holds at the points divisible by 32, -/
theorem condA_iff : ∀ t : Fin cfg1.N, condA (grid1.coords t) ↔ t.val % 32 = 0 := by decide +kernel
/-- and the second at the others. -/
theorem condB_iff : ∀ t : Fin cfg1.N, condB (grid1.coords t) ↔ ¬ t.val % 32 = 0 := by decide +kernel

/-- The sums' window is stored into at every point. -/
theorem live5 : ∀ t : Fin cfg1.N, cfg1.idle 5 (grid1.coords t) = false := by decide +kernel

/-- When the sums' buffer holds nothing of its batch: at a batch's first point. -/
def freshTab : ℕ → Bool
  | 0 => true
  | n + 1 => (0x80000000800000008000000080000000 : ℕ).testBit n
/-- The table follows the write-backs point by point, -/
theorem freshTab_step : ∀ t : Fin cfg1.N, freshTab (t.val + 1) = ((cfg1.win 5).flush t || (cfg1.idle 5 (cfg1.grid.coords t) && freshTab t.val)) := by decide +kernel
/-- so it says when the sums' buffer is fresh, -/
theorem fresh5_eq (t : Fin cfg1.N) : cfg1.fresh 5 t.val = freshTab t.val :=
  Pipeline.Cfg.fresh_tab cfg1 5 freshTab rfl freshTab_step t.val (Nat.le_of_lt t.isLt)
/-- which it is not at a batch's later points. -/
theorem freshTab_false : ∀ t : Fin cfg1.N, ¬ t.val % 32 = 0 → freshTab t.val = false := by decide +kernel

/-! ## The body's triples -/

set_option maxHeartbeats 1000000 in
/-- The body at a batch's first point: whatever the sums' buffer held, it is left at the block's own sums. -/
theorem sound_kernel_A (c : Dev nD) (E : Set ℕ) (i : grid1.Coords) (arg2 : Memref sig .tc .vmem S1x64x256 .f32) (harg2 : arg2.IsWhole) (arg3 : Memref sig .tc .vmem S1x64x2048 .f32) (harg3 : arg3.IsWhole) (arg4 : Memref sig .tc .vmem S1x64x2048 .f32) (harg4 : arg4.IsWhole) (arg5 : Memref sig .tc .vmem S64x128 .f32) (harg5 : arg5.IsWhole) (arg6 : Memref sig .tc .vmem S1x64x256 .f32) (harg6 : arg6.IsWhole) (arg7 : Memref sig .tc .vmem S1x64x2 .f32) (harg7 : arg7.IsWhole)
    (x0 : Vec F S1x64x256 .f32) (x1 : Vec F S1x64x2048 .f32) (x2 : Vec F S1x64x2048 .f32) (x3 : Vec F S64x128 .f32) (hc0 : condA i) (hc1 : ¬condB i) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outY x0 x1 x2 x3) ∗ owns (c : Thread nD τ) arg7 fullShare (outT x0 x1 x2 x3)) -∗ K ⟨⟩))
      ⊢ wp frame (wpE (defs₀ (F := F)) Variants.none c none) E (cc1__knn_kernel i arg2 harg2 arg3 harg3 arg4 harg4 arg5 harg5 arg6 harg6 arg7 harg7) K := by
  simp only [cc1__knn_kernel_eq_skeleton]; unfold cc1__knn_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverY _)
  iexists _; isplitr
  swap; · iexact H5
  ipureintro
  exact View.read_writes_eq_canon _ _ _ (coverT _)

set_option maxHeartbeats 1000000 in
/-- The body at any other point: the block's sums are added to what the sums' buffer held. -/
theorem sound_kernel_B (c : Dev nD) (E : Set ℕ) (i : grid1.Coords) (arg2 : Memref sig .tc .vmem S1x64x256 .f32) (harg2 : arg2.IsWhole) (arg3 : Memref sig .tc .vmem S1x64x2048 .f32) (harg3 : arg3.IsWhole) (arg4 : Memref sig .tc .vmem S1x64x2048 .f32) (harg4 : arg4.IsWhole) (arg5 : Memref sig .tc .vmem S64x128 .f32) (harg5 : arg5.IsWhole) (arg6 : Memref sig .tc .vmem S1x64x256 .f32) (harg6 : arg6.IsWhole) (arg7 : Memref sig .tc .vmem S1x64x2 .f32) (harg7 : arg7.IsWhole)
    (x0 : Vec F S1x64x256 .f32) (x1 : Vec F S1x64x2048 .f32) (x2 : Vec F S1x64x2048 .f32) (x3 : Vec F S64x128 .f32) (s : Vec F S1x64x2 .f32) (hc0 : ¬condA i) (hc1 : condB i) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outY x0 x1 x2 x3) ∗ owns (c : Thread nD τ) arg7 fullShare (outU x0 x1 x2 x3 s)) -∗ K ⟨⟩))
      ⊢ wp frame (wpE (defs₀ (F := F)) Variants.none c none) E (cc1__knn_kernel i arg2 harg2 arg3 harg3 arg4 harg4 arg5 harg5 arg6 harg6 arg7 harg7) K := by
  simp only [cc1__knn_kernel_eq_skeleton]; unfold cc1__knn_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverY _)
  iexists _; isplitr
  swap; · iexact H5
  ipureintro
  exact View.read_writes_eq_canon _ _ _ (coverT _)

/-! ## The proof data, from any contents of the arrays -/

variable (V : (c : Dev nD) → (b : Ref sig .tc) → Buf (Elt F) ((c : Thread nD τ).loc b))

/-- Window `w`'s block at point `t` of its array at entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The sums' buffer after each point: reset at a batch's first point, added to at the others. -/
def sumsAt (c : Dev nD) : (n : ℕ) → n < cfg1.N → Vec F S1x64x2 .f32
  | 0, hn => outT (iblk V c 0 ⟨0, hn⟩) (iblk V c 1 ⟨0, hn⟩) (iblk V c 2 ⟨0, hn⟩) (iblk V c 3 ⟨0, hn⟩)
  | n + 1, hn =>
    if (n + 1) % 32 = 0 then outT (iblk V c 0 ⟨n + 1, hn⟩) (iblk V c 1 ⟨n + 1, hn⟩) (iblk V c 2 ⟨n + 1, hn⟩) (iblk V c 3 ⟨n + 1, hn⟩)
    else outU (iblk V c 0 ⟨n + 1, hn⟩) (iblk V c 1 ⟨n + 1, hn⟩) (iblk V c 2 ⟨n + 1, hn⟩) (iblk V c 3 ⟨n + 1, hn⟩)
      (sumsAt c n (Nat.lt_of_succ_lt hn))

/-- At a batch's first point the buffer holds that point's sums, -/
theorem sumsAt_A (c : Dev nD) (t : Fin cfg1.N) (h : t.val % 32 = 0) :
    sumsAt V c t.val t.isLt = outT (iblk V c 0 t) (iblk V c 1 t) (iblk V c 2 t) (iblk V c 3 t) := by
  obtain ⟨n, hn⟩ := t
  cases n with
  | zero => rfl
  | succ n => exact if_pos h
/-- and at a later one the sum of the point's and of what was there. -/
theorem sumsAt_B (c : Dev nD) (t : Fin cfg1.N) (h : ¬ t.val % 32 = 0) :
    sumsAt V c t.val t.isLt = outU (iblk V c 0 t) (iblk V c 1 t) (iblk V c 2 t) (iblk V c 3 t)
      (sumsAt V c (t.val - 1) (Nat.lt_of_le_of_lt (Nat.sub_le _ _) t.isLt)) := by
  obtain ⟨n, hn⟩ := t
  cases n with
  | zero => exact absurd (Nat.zero_mod _) h
  | succ n => exact if_neg h

/-- The proof data: each array as `V` has it, the inputs' buffers left at their blocks, the outputs' at what the
    body leaves there. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outY (iblk V c 0 t) (iblk V c 1 t) (iblk V c 2 t) (iblk V c 3 t)
    | ⟨5, _⟩ => sumsAt V c t.val t.isLt
  Φ _ := Pipeline.ΦA spec1 c
  q _ := fullShare
  owed _ := 0

/-- Each array starts as `V` has it. -/
theorem A_eq (c : Dev nD) (w : Fin cfg1.W) : (dat V c).A w = V c (Pipeline.arrRef spec1 w) := by dsimp only [dat]
/-- What the body leaves in the first buffer: its block. -/
theorem after_0 (c : Dev nD) (t : Fin cfg1.N) : (dat V c).after 0 t = iblk V c 0 t := by dsimp only [dat]
/-- The same of the second, -/
theorem after_1 (c : Dev nD) (t : Fin cfg1.N) : (dat V c).after 1 t = iblk V c 1 t := by dsimp only [dat]
/-- of the third, -/
theorem after_2 (c : Dev nD) (t : Fin cfg1.N) : (dat V c).after 2 t = iblk V c 2 t := by dsimp only [dat]
/-- and of the fourth. -/
theorem after_3 (c : Dev nD) (t : Fin cfg1.N) : (dat V c).after 3 t = iblk V c 3 t := by dsimp only [dat]
/-- What it leaves in the output's buffer. -/
theorem after_4 (c : Dev nD) (t : Fin cfg1.N) : (dat V c).after 4 t = outY (iblk V c 0 t) (iblk V c 1 t) (iblk V c 2 t) (iblk V c 3 t) := by dsimp only [dat]
/-- What it leaves in the sums' buffer. -/
theorem after_5 (c : Dev nD) (t : Fin cfg1.N) : (dat V c).after 5 t = sumsAt V c t.val t.isLt := by dsimp only [dat]

/-- An input's buffer holds its block at every point: it was fetched, or was left in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The same of the second input, -/
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- of the third, -/
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- and of the fourth. -/
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- At a batch's later points the sums' buffer holds what the point before left. -/
theorem before_5 (c : Dev nD) (t : Fin cfg1.N) (h : ¬ t.val % 32 = 0) (d) :
    (dat V c).before 5 t d = sumsAt V c (t.val - 1) (Nat.lt_of_le_of_lt (Nat.sub_le _ _) t.isLt) := by
  rw [Dat.before_out_traj _ 5 rfl (fun _ _ => rfl)
      (fun t _ hi _ => by rw [live5 t] at hi; exact absurd hi Bool.false_ne_true) t.val t rfl d,
    if_neg (by rw [fresh5_eq t, freshTab_false t h]; exact Bool.false_ne_true)]
  dsimp only [dat]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 800000 in
/-- The body at any point, a batch's first or another. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    show (dat V c).leavesExact 0 t = owns (c : Thread nD τ) (st1_0 t) fullShare ((dat V c).after 0 t) from by
      unfold Dat.leavesExact; rw [show cfg1.idle 0 (grid1.coords t) = false from rfl],
    show (dat V c).leavesExact 1 t = owns (c : Thread nD τ) (st1_1 t) fullShare ((dat V c).after 1 t) from by
      unfold Dat.leavesExact; rw [show cfg1.idle 1 (grid1.coords t) = false from rfl],
    show (dat V c).leavesExact 2 t = owns (c : Thread nD τ) (st1_2 t) fullShare ((dat V c).after 2 t) from by
      unfold Dat.leavesExact; rw [show cfg1.idle 2 (grid1.coords t) = false from rfl],
    show (dat V c).leavesExact 3 t = owns (c : Thread nD τ) (st1_3 t) fullShare ((dat V c).after 3 t) from by
      unfold Dat.leavesExact; rw [show cfg1.idle 3 (grid1.coords t) = false from rfl],
    show (dat V c).leavesExact 4 t = owns (c : Thread nD τ) (st1_4 t) fullShare ((dat V c).after 4 t) from by
      unfold Dat.leavesExact; rw [show cfg1.idle 4 (grid1.coords t) = false from rfl],
    show (dat V c).leavesExact 5 t = owns (c : Thread nD τ) (st1_5 t) fullShare ((dat V c).after 5 t) from by
      unfold Dat.leavesExact; rw [live5 t],
    after_0, after_1, after_2, after_3, after_4, after_5]
  by_cases h : t.val % 32 = 0
  · rw [sumsAt_A V c t h]
    iintro ⟨HΦ, Ho, ⟨%d0, H0⟩, ⟨%d1, H1⟩, ⟨%d2, H2⟩, ⟨%d3, H3⟩, ⟨%d4, H4⟩, ⟨%d5, H5⟩⟩
    iapply (sound_kernel_A c Set.univ (grid1.coords t) _ _ _ _ _ _ _ _ _ _ _ _ (iblk V c 0 t) (iblk V c 1 t) (iblk V c 2 t) (iblk V c 3 t)
      ((condA_iff t).mpr h) (fun h' => (condB_iff t).mp h' h) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [sumsAt_B V c t h]
    simp only [before_5 V c t h]
    iintro ⟨HΦ, Ho, ⟨%d0, H0⟩, ⟨%d1, H1⟩, ⟨%d2, H2⟩, ⟨%d3, H3⟩, ⟨%d4, H4⟩, ⟨%d5, H5⟩⟩
    iapply (sound_kernel_B c Set.univ (grid1.coords t) _ _ _ _ _ _ _ _ _ _ _ _ (iblk V c 0 t) (iblk V c 1 t) (iblk V c 2 t) (iblk V c 3 t)
      (sumsAt V c (t.val - 1) (Nat.lt_of_le_of_lt (Nat.sub_le _ _) t.isLt))
      (fun h' => h ((condA_iff t).mp h')) ((condB_iff t).mpr h) _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body that the call runs at a point. -/
theorem body_row (t : Fin cfg1.N) : defs₀ (F := F) .tc cfg1.body (cfg1.bodyArgs t (cfg1.slots t)) = bodyAt1 t := by
  unfold defs₀; rw [Defs.onTc_tc]

/-- The body's obligation at every point. -/
theorem body_obligation (c : Dev nD) : BodyObligation (dat V c) (defs₀ (F := F)) Variants.none () Set.univ := fun t => by
  rw [bigSep_W1, bigSep_W1, body_row]
  exact triple_restated (sound_body V c t) rfl .rfl fun _ => .rfl

end Cert.KernelIdeal.R1

end
-- ==== Proof.Region2.lean ====
/-
  The third kernel call (batch normalisation of the convolved features from the accumulated sums, and the leaky
  activation) as a pipeline of four grid points, a batch each: what its body leaves in the output's staging
  buffer, the triple of the body, and the proof data of the call entered from any contents `V` of the arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.UnfoldOut

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The rectangles the body loads and stores through: the two columns of the sums, a column, the whole block. -/
abbrev rS : Rect S4x64x2 := Rect.unit (s := S4x64x2) ![0, 0, 0] S4x64x1.size inb_S4x64x2_S4x64x1_0_0_0
/-- the squares' sums, -/
abbrev rQ : Rect S4x64x2 := Rect.unit (s := S4x64x2) ![0, 0, 1] S4x64x1.size inb_S4x64x2_S4x64x1_0_0_1
/-- a column, -/
abbrev rG : Rect S64x1 := Rect.unit (s := S64x1) ![0, 0] S64x1.size inb_S64x1_S64x1_0_0
/-- and the whole block. -/
abbrev rY : Rect S1x64x8192 := Rect.unit (s := S1x64x8192) ![0, 0, 0] S1x64x8192.size inb_S1x64x8192_S1x64x8192_0_0_0

/-- What the body leaves in the output's buffer. -/
def out (x0 : Vec F S1x64x8192 .f32) (x1 : Vec F S4x64x2 .f32) (x2 : Vec F S64x1 .f32) (x3 : Vec F S64x1 .f32) : Vec F S1x64x8192 .f32 :=
  View.canon [⟨rY, k2_pay1 (View.ld x1 rS) (View.ld x1 rQ) (View.ld x2 rG) (View.ld x0 rY) (View.ld x3 rG)⟩]

/-- The one store covers the buffer. -/
theorem cover (p0 : Vec F S1x64x8192 .f32) (y : S1x64x8192.Idx) :
    ∃ pc ∈ ([⟨rY, p0⟩] : List (View.Piece (Elt F) S1x64x8192 .f32)), y ∈ pc.1.set :=
  View.cover_of_tiled [⟨rY, p0⟩] S1x64x8192.size (by rfl) y

set_option maxHeartbeats 1000000 in
/-- The body on whole staging buffers returns them with the output's at `out` of the inputs'. -/
theorem sound_kernel (c : Dev nD) (E : Set ℕ) (i : grid2.Coords) (arg1 : Memref sig .tc .vmem S1x64x8192 .f32) (harg1 : arg1.IsWhole) (arg2 : Memref sig .tc .vmem S4x64x2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x64x8192 .f32) (harg5 : arg5.IsWhole)
    (x0 : Vec F S1x64x8192 .f32) (x1 : Vec F S4x64x2 .f32) (x2 : Vec F S64x1 .f32) (x3 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out x0 x1 x2 x3)) -∗ K ⟨⟩))
      ⊢ wp frame (wpE (defs₀ (F := F)) Variants.none c none) E (cc2__bn2_kernel i arg1 harg1 arg2 harg2 arg3 harg3 arg4 harg4 arg5 harg5) K := by
  simp only [cc2__bn2_kernel_eq_skeleton]; unfold cc2__bn2_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The proof data, from any contents of the arrays -/

variable (V : (c : Dev nD) → (b : Ref sig .tc) → Buf (Elt F) ((c : Thread nD τ).loc b))

/-- Window `w`'s block at point `t` of its array at entry. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: each array as `V` has it, the inputs' buffers left at their blocks, the output's at `out`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec2 c
  q _ := fullShare
  owed _ := 0

/-- Each array starts as `V` has it. -/
theorem A_eq (c : Dev nD) (w : Fin cfg2.W) : (dat V c).A w = V c (Pipeline.arrRef spec2 w) := by dsimp only [dat]
/-- What the body leaves in the first buffer: its block. -/
theorem after_0 (c : Dev nD) (t : Fin cfg2.N) : (dat V c).after 0 t = iblk V c 0 t := by dsimp only [dat]
/-- The same of the second, -/
theorem after_1 (c : Dev nD) (t : Fin cfg2.N) : (dat V c).after 1 t = iblk V c 1 t := by dsimp only [dat]
/-- of the third, -/
theorem after_2 (c : Dev nD) (t : Fin cfg2.N) : (dat V c).after 2 t = iblk V c 2 t := by dsimp only [dat]
/-- and of the fourth. -/
theorem after_3 (c : Dev nD) (t : Fin cfg2.N) : (dat V c).after 3 t = iblk V c 3 t := by dsimp only [dat]
/-- What it leaves in the output's buffer. -/
theorem after_4 (c : Dev nD) (t : Fin cfg2.N) : (dat V c).after 4 t = out (iblk V c 0 t) (iblk V c 1 t) (iblk V c 2 t) (iblk V c 3 t) := by dsimp only [dat]

/-- An input's buffer holds its block at every point: it was fetched, or was left in place. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The same of the second input, -/
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- of the third, -/
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- and of the fourth. -/
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- The body at any point, from the blocks to `out` of them. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body that the call runs at a point. -/
theorem body_row (t : Fin cfg2.N) : defs₀ (F := F) .tc cfg2.body (cfg2.bodyArgs t (cfg2.slots t)) = bodyAt2 t := by
  unfold defs₀; rw [Defs.onTc_tc]

/-- The body's obligation at every point. -/
theorem body_obligation (c : Dev nD) : BodyObligation (dat V c) (defs₀ (F := F)) Variants.none () Set.univ := fun t => by
  rw [bigSep_W2, bigSep_W2, body_row]
  exact triple_restated (sound_body V c t) rfl .rfl fun _ => .rfl

end Cert.KernelIdeal.R2

end
-- ==== Proof.Run.lean ====
/-
  The whole program's run: the host's reshapes of the four columns, then the three kernel calls, each entered from
  the buffers as the one before left them.  In every final state each unscoped buffer of a core holds what the chain
  of valuations `W1` … `W4` says, and every semaphore counter is at zero.
-/
module

public import proofs.«01_k».proof.Proof.Region0
public import proofs.«01_k».proof.Proof.Region1
public import proofs.«01_k».proof.Proof.Region2
public import proofs.«01_k».proof.Proof.Gen.KernelIdeal.Regions
public import Idealize.ShloMosaic.Lib.Pipeline.RegionArraysS
public import Idealize.ShloMosaic.Lib.Pipeline.FrameTail

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the calls -/

/-- After the host's reshapes, -/
def W1 (c : Dev nD) : Valuation τ sig (Elt F) := StableHlo.after hostOps0 (V0 m c)
/-- the first call's proof data, entered from there, -/
def D0 (c : Dev nD) : Dat τ (Elt F) Unit ℕ (UR sig nD τ) ℕ cfg0 c := R0.dat (fun c b => W1 m c (Proc.devRef .tc b)) c
/-- after the first call, -/
def W2 (c : Dev nD) : Valuation τ sig (Elt F) := Pipeline.afterRegion (D0 m c) (W1 m c)
/-- The second call's proof data, entered from there, -/
def D1 (c : Dev nD) : Dat τ (Elt F) Unit ℕ (UR sig nD τ) ℕ cfg1 c := R1.dat (fun c b => W2 m c (Proc.devRef .tc b)) c
/-- after the second, -/
def W3 (c : Dev nD) : Valuation τ sig (Elt F) := Pipeline.afterRegion (D1 m c) (W2 m c)
/-- The third call's proof data, entered from there, -/
def D2 (c : Dev nD) : Dat τ (Elt F) Unit ℕ (UR sig nD τ) ℕ cfg2 c := R2.dat (fun c b => W3 m c (Proc.devRef .tc b)) c
/-- and after the third. -/
def W4 (c : Dev nD) : Valuation τ sig (Elt F) := Pipeline.afterRegion (D2 m c) (W3 m c)

/-- The three calls' proof data. -/
def pdats : (p : Fin 3) → (c : Dev nD) → Dat τ (Elt F) Unit ℕ (UR sig nD τ) ℕ (cfgs p) c
  | 0, c => D0 m c
  | 1, c => D1 m c
  | 2, c => D2 m c

/-- Each call's arrays at its entry: the first's, -/
theorem A0 (c : Dev nD) (w : Fin cfg0.W) : (D0 m c).A w = W1 m c (Proc.devRef .tc (Pipeline.arrRef spec0 w)) := R0.A_eq _ c w
/-- the second's, -/
theorem A1 (c : Dev nD) (w : Fin cfg1.W) : (D1 m c).A w = W2 m c (Proc.devRef .tc (Pipeline.arrRef spec1 w)) := R1.A_eq _ c w
/-- and the third's. -/
theorem A2 (c : Dev nD) (w : Fin cfg2.W) : (D2 m c).A w = W3 m c (Proc.devRef .tc (Pipeline.arrRef spec2 w)) := R2.A_eq _ c w

/-- The calls' body obligations, at these proof data. -/
theorem body0 (c : Dev nD) : BodyObligation (D0 m c) (defs₀ (F := F)) Variants.none () Set.univ := R0.body_obligation (fun c b => W1 m c (Proc.devRef .tc b)) c
/-- The second call's obligation, -/
theorem body1 (c : Dev nD) : BodyObligation (D1 m c) (defs₀ (F := F)) Variants.none () Set.univ := R1.body_obligation (fun c b => W2 m c (Proc.devRef .tc b)) c
/-- and the third's. -/
theorem body2 (c : Dev nD) : BodyObligation (D2 m c) (defs₀ (F := F)) Variants.none () Set.univ := R2.body_obligation (fun c b => W3 m c (Proc.devRef .tc b)) c

/-! ## What each item leaves unchanged -/

/-- A buffer that is no output of a call's is what it was before the call. -/
theorem W2_of (c : Dev nD) (r : Ref sig .tc) (h : r ≠ main_v4) : W2 m c (Proc.devRef .tc r) = W1 m c (Proc.devRef .tc r) := by
  refine Pipeline.afterRegion_keeps (D0 m c) (W1 m c) launch0.win.arr_inj (A0 m c) r ?_
  intro w hw
  fin_cases w <;> first | rfl | exact absurd hw.symm h
/-- The same of the second call, -/
theorem W3_of (c : Dev nD) (r : Ref sig .tc) (h : r ≠ main_v5_0) (h' : r ≠ main_v5_1) : W3 m c (Proc.devRef .tc r) = W2 m c (Proc.devRef .tc r) := by
  refine Pipeline.afterRegion_keeps (D1 m c) (W2 m c) launch1.win.arr_inj (A1 m c) r ?_
  intro w hw
  fin_cases w <;> first | rfl | exact absurd hw.symm h | exact absurd hw.symm h'
/-- and of the third. -/
theorem W4_of (c : Dev nD) (r : Ref sig .tc) (h : r ≠ main_v6) : W4 m c (Proc.devRef .tc r) = W3 m c (Proc.devRef .tc r) := by
  refine Pipeline.afterRegion_keeps (D2 m c) (W3 m c) launch2.win.arr_inj (A2 m c) r ?_
  intro w hw
  fin_cases w <;> first | rfl | exact absurd hw.symm h

/-- A buffer nothing writes is as launched, at every stage. -/
theorem W1_arg (c : Dev nD) (r : Ref sig .tc) (h : r ∉ hostOps0_W) : W1 m c (Proc.devRef .tc r) = m ((c : Thread nD τ).loc r) :=
  V1_of m c r h
/-- The same after all three calls. -/
theorem W4_arg (c : Dev nD) (r : Ref sig .tc) (h : r ∉ hostOps0_W) (h4 : r ≠ main_v4) (h50 : r ≠ main_v5_0) (h51 : r ≠ main_v5_1) (h6 : r ≠ main_v6) :
    W4 m c (Proc.devRef .tc r) = m ((c : Thread nD τ).loc r) :=
  (W4_of m c r h6).trans <| (W3_of m c r h50 h51).trans <| (W2_of m c r h4).trans (W1_arg m c r h)

/-! ## The calls as segments -/

/-- The wait classes and levels: one class, on the cores' semaphores, at level zero. -/
abbrev L : GSem nD τ sig → Finset Unit := fun g => if g.1.2 = .tc then {()} else ∅
/-- Every wait is at level zero. -/
abbrev lv : GSem nD τ sig → Unit → ℕ := fun _ _ => 0

/-- What rides beside the buffers: the core owing nothing, and its generator register. -/
abbrev rest (c : Dev nD) : sProp 𝕄 :=
  iprop((∃ Wd, owes (c : Thread nD τ) (0 : CellTallies nD τ sig Unit) Wd) ∗ (∃ r, prngReg c r) ∗ BI.emp)

/-- The levels never forbid a wait. -/
theorem cut (p : Fin 3) : Pipeline.LevelCut (pcfgs (F := F)) adm () L lv p (fun _ => 0) (fun _ => 0) where
  hι _ _ _ := by simp [L, Dev.tc]
  hιb _ _ _ := Nat.le_refl 0
  hD _ _ _ h := absurd h (Nat.lt_irrefl 0)

set_option backward.isDefEq.respectTransparency.types false in
/-- The first call, entered from `W1` and left at `W2`. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (body0 m c).loose) (fun _ _ => rfl) (fun _ => rfl)
    (fun c => (D0 m c).share_full fun _ => rfl) (fun _ => .rfl) (fun _ => .rfl) (fun _ => 0) (cut 0) (fun _ => BI.emp)
    (W1 m) (fun c w => A0 m c w)

set_option backward.isDefEq.respectTransparency.types false in
/-- The second call, entered from `W2` and left at `W3`. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (body1 m c).loose) (fun _ _ => rfl) (fun _ => rfl)
    (fun c => (D1 m c).share_full fun _ => rfl) (fun _ => .rfl) (fun _ => .rfl) (fun _ => 0) (cut 1) (fun _ => BI.emp)
    (W2 m) (fun c w => A1 m c w)

set_option backward.isDefEq.respectTransparency.types false in
/-- The third call, entered from `W3` and left at `W4`. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) (launch2.toP) rfl
    (fun c => (body2 m c).loose) (fun _ _ => rfl) (fun _ => rfl)
    (fun c => (D2 m c).share_full fun _ => rfl) (fun _ => .rfl) (fun _ => .rfl) (fun _ => 0) (cut 2) (fun _ => BI.emp)
    (W3 m) (fun c w => A2 m c w)

/-- The calls' arrays are unscoped buffers. -/
theorem sub0 : Pipeline.arrRefs (τ := τ) (pcfgs (F := F) 0).spec ⊆ Pipeline.ucRefs τ sig := Pipeline.arrRefs_sub_ucRefs spec0 winFacts0.arr_unscoped
/-- The second call's arrays are unscoped buffers, -/
theorem sub1 : Pipeline.arrRefs (τ := τ) (pcfgs (F := F) 1).spec ⊆ Pipeline.ucRefs τ sig := Pipeline.arrRefs_sub_ucRefs spec1 winFacts1.arr_unscoped
/-- and the third's. -/
theorem sub2 : Pipeline.arrRefs (τ := τ) (pcfgs (F := F) 2).spec ⊆ Pipeline.ucRefs τ sig := Pipeline.arrRefs_sub_ucRefs spec2 winFacts2.arr_unscoped

/-- Each call's entry and exit states. -/
theorem reg0_pre (c : Dev nD) : iprop(StableHlo.held (c.tc : Thread nD τ) (Pipeline.ucRefs τ sig) (W1 m c) ∗ rest (F := F) c) ⊢ (reg0 m).pre c :=
  have h : _ ⊢ (reg0 m).pre c := RegionSeg.ofHeldIn_pre (p := 0) (sub0 (F := F)) c
  h
/-- What the first call leaves is what the second begins with: -/
theorem reg0_post (c : Dev nD) : (reg0 m).post c ⊢ iprop(StableHlo.held (c.tc : Thread nD τ) (Pipeline.ucRefs τ sig) (W2 m c) ∗ rest (F := F) c) :=
  RegionSeg.ofHeldIn_post (p := 0) (sub0 (F := F)) c
/-- the second call's precondition, -/
theorem reg1_pre (c : Dev nD) : iprop(StableHlo.held (c.tc : Thread nD τ) (Pipeline.ucRefs τ sig) (W2 m c) ∗ rest (F := F) c) ⊢ (reg1 m).pre c :=
  have h : _ ⊢ (reg1 m).pre c := RegionSeg.ofHeldIn_pre (p := 1) (sub1 (F := F)) c
  h
/-- and its postcondition; -/
theorem reg1_post (c : Dev nD) : (reg1 m).post c ⊢ iprop(StableHlo.held (c.tc : Thread nD τ) (Pipeline.ucRefs τ sig) (W3 m c) ∗ rest (F := F) c) :=
  RegionSeg.ofHeldIn_post (p := 1) (sub1 (F := F)) c
/-- the third call's precondition, -/
theorem reg2_pre (c : Dev nD) : iprop(StableHlo.held (c.tc : Thread nD τ) (Pipeline.ucRefs τ sig) (W3 m c) ∗ rest (F := F) c) ⊢ (reg2 m).pre c :=
  have h : _ ⊢ (reg2 m).pre c := RegionSeg.ofHeldIn_pre (p := 2) (sub2 (F := F)) c
  h
/-- and its postcondition. -/
theorem reg2_post (c : Dev nD) : (reg2 m).post c ⊢ iprop(StableHlo.held (c.tc : Thread nD τ) (Pipeline.ucRefs τ sig) (W4 m c) ∗ rest (F := F) c) :=
  RegionSeg.ofHeldIn_post (p := 2) (sub2 (F := F)) c

/-- The last state owes nothing. -/
theorem rest_owes (c : Dev nD) : rest (F := F) c ⊢ (iprop(∃ Wd, owes (c : Thread nD τ) (0 : CellTallies nD τ sig Unit) Wd) : sProp 𝕄) := by
  unfold rest
  iintro ⟨H, -⟩
  iexact H

/-- The launch's share of a core makes its first state. -/
theorem start (ρ : Dev nD → PrngReg) (c : Dev nD) :
    iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)
      ⊢ (iprop(StableHlo.held (c : Thread nD τ) (Pipeline.ucRefs τ sig) (V0 m c) ∗ rest (F := F) c) : sProp 𝕄) := by
  rw [← Pipeline.unscopedBufs_held (Ix := Unit) (Name := ℕ) (U := UR sig nD τ) (Lvl := ℕ) c (V0 m c)]
  unfold rest
  iintro ⟨Hb, -, Ho, -, Hp, -⟩
  isplitl [Hb]; · iexact Hb
  isplitl [Ho]; · iexists _; iexact Ho
  isplitl [Hp]; · iexists _; iexact Hp
  iempintro

/-! ## The run -/

variable (ρ : Dev nD → PrngReg)

set_option backward.isDefEq.respectTransparency.types false in
/-- Every fair execution terminates with each unscoped buffer at `W4` and every semaphore counter at zero. -/
theorem run_main :
    θ_run defs (onTc (τ := τ) (main (F := F))) ⟨m, fun _ => 0, ρ⟩ (fun r =>
      (∀ c : Dev nD, ∀ b ∈ Pipeline.ucRefs τ sig, r.2.mem ((c : Thread nD τ).1, b) = W4 m c b) ∧ r.2.sem = fun _ => 0) := by
  refine Pipeline.θ_run_regions_kit_dev_sems (pcfgs (F := F)) adm (pdats m) () cellOf_inj emb₁ defs₀ Variants.none L lv m ρ main
    (segs m Variants.none L lv (fun _ c => rest (F := F) c) () (pdats m) (reg0 m) (reg1 m) (reg2 m))
    (fun c Q => by
      rewrite [main_chain c, Seg.run_eq_chain,
        show (segs m Variants.none L lv (fun _ c => rest (F := F) c) () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [segs, Seg.pipes_host, Seg.pipes_region, Seg.pipes_nil]; decide) (fun _ => 0)
    (fun g hg => if_neg hg) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ rest (F := F) c))
    (Tₙ := fun c => StableHlo.held (c : Thread nD τ) (Pipeline.ucRefs τ sig) (W4 m c))
    (hch := fun c => ⟨.rfl, reg0_pre m c, (reg0_post m c).trans (reg1_pre m c), (reg1_post m c).trans (reg2_pre m c),
      (reg2_post m c).trans (sep_mono .rfl (rest_owes c))⟩)
    (hinit := ?_) (QY := fun c s => ∀ b ∈ Pipeline.ucRefs τ sig, s.mem ((c : Thread nD τ).1, b) = W4 m c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => BI.emp) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ rest (F := F) c) : sProp 𝕄) :=
      bigSep_mono fun c _ => start m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact h
    · iexact HSI

/-- A reference of the cores' own memory space is among the unscoped buffers when it is unscoped. -/
theorem mem_uc (r : Ref sig .tc) (h : r.isScoped = false) : (Proc.devRef .tc r : DevRef τ sig) ∈ Pipeline.ucRefs τ sig :=
  Finset.mem_filter.mpr ⟨StableHlo.devRef_mem_tcRefs r, by simpa using h⟩

end Cert.KernelIdeal.Whole

end
-- ==== Proof.Frames.lean ====
/-
  The frame of the kernel's program at any floats, read off the whole run: each argument ends as launched, every
  semaphore counter at zero.
-/
module

public import proofs.«01_k».proof.Proof.Run

@[expose] public section

set_option maxRecDepth 16384

noncomputable section

namespace Cert.KernelIdeal.Whole

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The arguments end as launched. -/
def Kept (s : (ℓ : Loc nD τ sig) → Buf (Elt F) ℓ) : Prop := ∀ c : Dev nD,
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)

/-- Contents that are `W4`'s keep the arguments. -/
theorem kept_of (s : (ℓ : Loc nD τ sig) → Buf (Elt F) ℓ)
    (h : ∀ c : Dev nD, ∀ b ∈ Pipeline.ucRefs τ sig, s ((c : Thread nD τ).1, b) = W4 m c b) : Kept m s := by
  intro c
  refine ⟨?_, ?_, ?_, ?_, ?_, ?_, ?_, ?_, ?_, ?_, ?_, ?_, ?_⟩ <;>
    exact (h c _ (mem_uc _ (by decide))).trans (W4_arg m c _ (by decide) (by decide) (by decide) (by decide) (by decide))

/-- The run, keeping the arguments and leaving the result at `W4`. -/
theorem run :
    θ_run defs (onTc (τ := τ) (main (F := F))) ⟨m, fun _ => 0, ρ⟩ (fun r =>
      (Kept m r.2.mem ∧ ∀ c : Dev nD, r.2.mem ((c.tc : Thread nD τ).loc main_v6) = W4 m c (Proc.devRef .tc main_v6)) ∧ r.2.sem = fun _ => 0) :=
  (θ_run defs _ _).mono (fun _ h => ⟨⟨kept_of m _ h.1, fun c => h.1 c _ (mem_uc main_v6 (by decide))⟩, h.2⟩) (run_main m ρ)

/-- The frame. -/
theorem frame : θ_run defs (onTc (τ := τ) (main (F := F))) ⟨m, fun _ => 0, ρ⟩ (fun r => Kept m r.2.mem ∧ r.2.sem = fun _ => 0) :=
  (θ_run defs _ _).mono (fun _ h => ⟨h.1.1, h.2⟩) (run m ρ)

end Cert.KernelIdeal.Whole

end
-- ==== Proof.Reals.lean ====
/-
  The operations of the two programs on real numbers, read among the extended reals, and the one law of the reals the
  claim rests on: the mean of the squared deviations is the mean square less the square of the mean, so that the two
  forms of batch normalisation are one.
-/
module

public import Idealize.ShloMosaic.Lib.Pointwise

@[expose] public section

noncomputable section

namespace Cert.Reals

open Idealize.ShloMosaic
open scoped BigOperators

/-! ## Real numbers among the extended reals -/

/-- A sum of reals is a real. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A quotient by a real other than zero is a real. -/
theorem div_coe (a : ℝ) {b : ℝ} (hb : b ≠ 0) : Ideal.div (a : EReal) (b : EReal) = ((a / b : ℝ) : EReal) := by
  rw [Ideal.div_coe hb, ← EReal.coe_mul, mul_one_div]

/-- The root of a real that is not negative is a real, -/
theorem sqrt_coe {a : ℝ} (ha : 0 ≤ a) : Ideal.sqrt (a : EReal) = ((Real.sqrt a : ℝ) : EReal) := by
  rw [Ideal.sqrt_coe, if_neg (not_lt.mpr ha)]

/-- and so is the inverse root of a positive one. -/
theorem rsqrt_coe {a : ℝ} (ha : 0 < a) : Ideal.rsqrt (a : EReal) = (((Real.sqrt a)⁻¹ : ℝ) : EReal) := by
  rw [Ideal.rsqrt_coe, if_neg (not_lt.mpr ha.le), if_neg ha.ne']

/-- The greater of two finite numbers is a finite number. -/
theorem max_coe (a b : ℝ) : max (a : EReal) (b : EReal) = ((max a b : ℝ) : EReal) :=
  (EReal.coe_strictMono.monotone.map_max).symm

/-- An extended real that is neither infinity is a real. -/
theorem eq_coe {x : EReal} (h : max x (-x) < ⊤) : x = ((x.toReal : ℝ) : EReal) := by
  refine (EReal.coe_toReal ?_ ?_).symm
  · rintro rfl; simp at h
  · rintro rfl; simp at h

/-! ## The literals -/

/-- The variance's guard, -/
def eps : ℝ := 10995116 * (2 : ℝ) ^ (-40 : ℤ)
/-- the distances' guard, -/
def tiny : ℝ := 11258999 * (2 : ℝ) ^ (-50 : ℤ)
/-- and the activation's slope below zero. -/
def slope : ℝ := 13421773 * (2 : ℝ) ^ (-26 : ℤ)

/-- The normalisations' small constant is positive. -/
theorem eps_pos : 0 < eps := by unfold eps; positivity
/-- The distances' small constant is positive. -/
theorem tiny_pos : 0 < tiny := by unfold tiny; positivity

/-- The literal words, as numbers: the normalisations' constant, -/
theorem lit_eps : Ideal.ofBits .f32 0x3727C5AC#32 = (eps : EReal) := by
  simp [Ideal.ofBits, Ideal.ieee, eps]
/-- the distances' constant, -/
theorem lit_tiny : Ideal.ofBits .f32 0x322BCC77#32 = (tiny : EReal) := by
  simp [Ideal.ofBits, Ideal.ieee, tiny]
/-- the activation's slope, -/
theorem lit_slope : Ideal.ofBits .f32 0x3E4CCCCD#32 = (slope : EReal) := by
  simp [Ideal.ofBits, Ideal.ieee, slope]
/-- two, -/
theorem lit_two : Ideal.ofBits .f32 0x40000000#32 = ((2 : ℝ) : EReal) := by
  simp [Ideal.ofBits, Ideal.ieee]; norm_num [zpow_neg]; rw [← EReal.coe_mul]; norm_num
/-- the count of coarse points, -/
theorem lit_8192 : Ideal.ofBits .f32 0x46000000#32 = ((8192 : ℝ) : EReal) := by
  simp [Ideal.ofBits, Ideal.ieee]; norm_num [zpow_neg]; rw [← EReal.coe_mul]; norm_num
/-- the count of fine points, -/
theorem lit_32768 : Ideal.ofBits .f32 0x47000000#32 = ((32768 : ℝ) : EReal) := by
  simp [Ideal.ofBits, Ideal.ieee]; norm_num [zpow_neg]; rw [← EReal.coe_mul]; norm_num
/-- and plus infinity. -/
theorem lit_inf : Ideal.ofBits .f32 0x7F800000#32 = ⊤ := by
  simp [Ideal.ofBits, Ideal.ieee]

/-! ## Batch normalisation -/

section Norm
variable {n : ℕ} (t : Fin 4 → Fin n → ℝ) (cnt : ℝ)

/-- The mean over batches and points, -/
def mu : ℝ := (∑ b, ∑ i, t b i) / cnt
/-- the mean squared deviation, -/
def var : ℝ := (∑ b, ∑ i, (t b i - mu t cnt) * (t b i - mu t cnt)) / cnt
/-- the value normalised, scaled and moved, -/
def norm (g β : ℝ) (b : Fin 4) (i : Fin n) : ℝ := g * (t b i - mu t cnt) / Real.sqrt (var t cnt + eps) + β

/-- A mean of squares is not negative. -/
theorem var_nonneg (h : 0 ≤ cnt) : 0 ≤ var t cnt :=
  div_nonneg (Finset.sum_nonneg fun _ _ => Finset.sum_nonneg fun _ _ => mul_self_nonneg _) h

/-- The mean squared deviation is the mean square less the square of the mean. -/
theorem var_eq (h : cnt = 4 * n) (h0 : cnt ≠ 0) :
    (∑ b, ∑ i, t b i * t b i) / cnt - mu t cnt * mu t cnt = var t cnt := by
  have e : ∑ b, ∑ i, (t b i - mu t cnt) * (t b i - mu t cnt)
      = (∑ b, ∑ i, t b i * t b i) - 2 * mu t cnt * (∑ b, ∑ i, t b i) + cnt * (mu t cnt * mu t cnt) := by
    generalize mu t cnt = M
    have e1 : ∀ b i, (t b i - M) * (t b i - M) = t b i * t b i - 2 * M * t b i + M * M := fun b i => by ring
    simp only [e1, Finset.sum_add_distrib, Finset.sum_sub_distrib, ← Finset.mul_sum, Finset.sum_const, Finset.card_univ,
      Fintype.card_fin, nsmul_eq_mul, Nat.cast_ofNat, h]
    ring
  unfold var
  rw [e, show (∑ b, ∑ i, t b i) = cnt * mu t cnt from by unfold mu; field_simp]
  field_simp
  ring

/-- The kernel's form: centred, then times the weight over the root. -/
theorem norm_eq (h : cnt = 4 * n) (h0 : cnt ≠ 0) (g β : ℝ) (b : Fin 4) (i : Fin n) :
    (t b i - mu t cnt) * (g * (Real.sqrt ((∑ b, ∑ i, t b i * t b i) / cnt - mu t cnt * mu t cnt + eps))⁻¹) + β
      = norm t cnt g β b i := by
  rw [var_eq t cnt h h0]; unfold norm; rw [div_eq_mul_inv]; ring

/-- What the root is taken of is positive. -/
theorem spread_pos (h : cnt = 4 * n) (h0 : 0 < cnt) :
    0 < (∑ b, ∑ i, t b i * t b i) / cnt - mu t cnt * mu t cnt + eps := by
  rw [var_eq t cnt h h0.ne']
  exact add_pos_of_nonneg_of_pos (var_nonneg t cnt h0.le) eps_pos

/-- The kernels' normalisation, on finite numbers. -/
theorem norm_kernel (h : cnt = 4 * n) (h0 : cnt ≠ 0) (g β : ℝ) (b : Fin 4) (i : Fin n) :
    ((t b i : EReal) - (mu t cnt : EReal)) *
        ((g * (Real.sqrt ((∑ b, ∑ i, t b i * t b i) / cnt - mu t cnt * mu t cnt + eps))⁻¹ : ℝ) : EReal) + (β : EReal) =
      (norm t cnt g β b i : EReal) := by
  rw [← EReal.coe_sub, ← EReal.coe_mul, ← EReal.coe_add, norm_eq t cnt h h0]

/-- The same with any scale and offset, infinite ones too: they stand outside the value normalised alone. -/
theorem norm_kernel_any (h : cnt = 4 * n) (h0 : cnt ≠ 0) (g β : EReal) (b : Fin 4) (i : Fin n) :
    ((t b i : EReal) - (mu t cnt : EReal)) *
        (g * (((Real.sqrt ((∑ b, ∑ i, t b i * t b i) / cnt - mu t cnt * mu t cnt + eps))⁻¹ : ℝ) : EReal)) + β =
      g * (norm t cnt 1 0 b i : EReal) + β := by
  rw [← norm_eq t cnt h h0, mul_left_comm, ← EReal.coe_sub, ← EReal.coe_mul, one_mul, add_zero]
end Norm

/-- The activation. -/
def leaky (z : ℝ) : ℝ := if 0 ≤ z then z else slope * z

end Cert.Reals

end
-- ==== Proof.Reads.lean ====
module

public import Idealize.ShloMosaic.Lib.Pointwise
public import Idealize.ShloMosaic.Lib.SortFacts

@[expose] public section

set_option maxRecDepth 16384

/-! Three array operations of the reference read at one index: the sum over the first and last axis of a rank-three
array, the leading positions of a sorted fiber, and a row looked up by an index word. -/

noncomputable section

namespace Cert.Reads

open Idealize.ShloMosaic

/-- A sum over the first and the last axis, at one position of the axis between them. -/
theorem sum_outer {n0 n1 n2 : Nat} (h : (⟨3, ![n0, n1, n2]⟩ : Shape).ReducesTo [0, 2] ⟨1, ![n1]⟩)
    (v : (⟨3, ![n0, n1, n2]⟩ : Shape).Idx → EReal) (init : EReal) (o : Fin n1) :
    Ideal.hostReduceAdd h v init (ix1 o) = init + ∑ b : Fin n0, ∑ i : Fin n2, v (ix3 b o i) := by
  have key : ∀ i : (⟨3, ![n0, n1, n2]⟩ : Shape).Idx, h.drop i = ix1 o ↔ ∃ k : Fin n0 × Fin n2, ix3 k.1 o k.2 = i := by
    intro i
    constructor
    · intro e
      refine ⟨(i 0, i 2), ?_⟩
      funext a; apply Fin.ext
      match a with
      | ⟨0, _⟩ => rfl
      | ⟨1, _⟩ => exact (congrArg Fin.val (congrFun e 0)).symm
      | ⟨2, _⟩ => rfl
    · rintro ⟨k, rfl⟩
      funext b
      apply Fin.ext
      match b with
      | ⟨0, _⟩ => rfl
  show init + _ = _
  congr 1
  refine (Finset.sum_filter_eq_sum_of_fiber _ (fun k : Fin n0 × Fin n2 => ix3 k.1 o k.2)
    (fun _ _ e => Prod.ext (congrFun e 0) (congrFun e 2)) key v).trans ?_
  simp only [Fintype.sum_prod_type]

/-- Positions in descending order of their values, equal values in order of position. -/
def order (x : Fin 2048 → EReal) : Fin 2048 → Fin 2048 :=
  sortedFrom fun k k' => FloatOps.cmpfTotal (F := Ideal) (φ := .f32) .gt (x k) (x k') == 1#1

/-- No position is listed twice. -/
theorem order_injective (x : Fin 2048 → EReal) : Function.Injective (order x) := sortedFrom_injective _

/-- Every position is listed. -/
theorem order_surjective (x : Fin 2048 → EReal) : Function.Surjective (order x) := sortedFrom_surjective _

/-- The order's comparison is the one of the extended reals. -/
theorem gt_iff (a b : EReal) : (FloatOps.cmpfTotal (F := Ideal) (φ := .f32) .gt a b == 1#1) = decide (b < a) := by
  by_cases h : b < a <;> simp [FloatOps.cmpfTotal, Ideal.cmpTotal, CmpDirection.ordered, Ideal.cmp, h]

/-- Values do not increase along the order. -/
theorem order_le (x : Fin 2048 → EReal) {i j : Fin 2048} (h : i < j) : x (order x j) ≤ x (order x i) := by
  have := sortedFrom_noInversion (fun k k' => FloatOps.cmpfTotal (F := Ideal) (φ := .f32) .gt (x k) (x k') == 1#1)
    (fun k k' => FloatOps.cmpfTotal (F := Ideal) (φ := .f32) .gt (x k) (x k') == 1#1) ?_ (fun _ _ h => h) ?_ i j h
  · rw [gt_iff, decide_eq_false_iff_not, not_lt] at this
    exact this
  · intro a b; simp only [gt_iff, decide_eq_true_eq, decide_eq_false_iff_not, not_lt]; exact le_of_lt
  · intro a b c; simp only [gt_iff, decide_eq_false_iff_not, not_lt]; exact fun h1 h2 => h1.trans h2

/-- Replacing the last coordinate. -/
theorem along_last (h : 2 < (⟨3, ![4, 8192, 2048]⟩ : Shape).rank) (b : Fin 4) (n : Fin 8192) (m k : Fin 2048) :
    (ix3 b n m : (⟨3, ![4, 8192, 2048]⟩ : Shape).Idx).along ⟨2, h⟩ k = ix3 b n k := by
  funext a
  match a with
  | ⟨0, _⟩ => rfl
  | ⟨1, _⟩ => rfl
  | ⟨2, _⟩ => rfl

/-- The comparison along a fiber. -/
theorem order_along (x : (⟨3, ![4, 8192, 2048]⟩ : Shape).Idx → EReal) (b : Fin 4) (n : Fin 8192) (m : Fin 2048) :
    (fun k k' => FloatOps.cmpfTotal (F := Ideal) (φ := .f32) .gt
        (x ((ix3 b n m : (⟨3, ![4, 8192, 2048]⟩ : Shape).Idx).along ⟨2, Nat.lt_succ_self 2⟩ k))
        (x ((ix3 b n m : (⟨3, ![4, 8192, 2048]⟩ : Shape).Idx).along ⟨2, Nat.lt_succ_self 2⟩ k')) == 1#1) =
      fun k k' => FloatOps.cmpfTotal (F := Ideal) (φ := .f32) .gt (x (ix3 b n k)) (x (ix3 b n k')) == 1#1 := by
  funext k k'
  rw [show _ = _ from along_last (Nat.lt_succ_self 2) b n m k, show _ = _ from along_last (Nat.lt_succ_self 2) b n m k']

/-- The leading values of a sorted fiber. -/
theorem top_value {K : Nat} (hK : K ≤ 2048) (x : (⟨3, ![4, 8192, 2048]⟩ : Shape).Idx → EReal)
    (h : (⟨3, ![4, 8192, 2048]⟩ : Shape).Slices (fun _ => 0) ⟨3, ![4, 8192, K]⟩) (b : Fin 4) (n : Fin 8192) (r : Fin K) :
    (Host.topK ⟨3, ![4, 8192, K]⟩ 2 (FloatOps.cmpfTotal (F := Ideal) (φ := .f32) .gt) x h).1 (ix3 b n r) =
      x (ix3 b n (order (fun m => x (ix3 b n m)) ⟨r.val, by omega⟩)) := by
  unfold Host.topK Host.sort2
  simp only [show (2 : Nat) < (⟨3, ![4, 8192, 2048]⟩ : Shape).rank from Nat.lt_succ_self 2, dif_pos]
  pointwise
  refine (congrArg x (along_last _ b n _ _)).trans ?_
  unfold order
  rw [← order_along x b n ⟨r.val, by omega⟩]
  rfl

/-- The positions of the leading values. -/
theorem top_index {K : Nat} (hK : K ≤ 2048) (x : (⟨3, ![4, 8192, 2048]⟩ : Shape).Idx → EReal)
    (h : (⟨3, ![4, 8192, 2048]⟩ : Shape).Slices (fun _ => 0) ⟨3, ![4, 8192, K]⟩) (b : Fin 4) (n : Fin 8192) (r : Fin K) :
    (Host.topK ⟨3, ![4, 8192, K]⟩ 2 (FloatOps.cmpfTotal (F := Ideal) (φ := .f32) .gt) x h).2 (ix3 b n r) =
      BitVec.ofNat 32 (order (fun m => x (ix3 b n m)) ⟨r.val, by omega⟩).val := by
  unfold Host.topK Host.sort2
  simp only [show (2 : Nat) < (⟨3, ![4, 8192, 2048]⟩ : Shape).rank from Nat.lt_succ_self 2, dif_pos]
  pointwise
  unfold order
  rw [← order_along x b n ⟨r.val, by omega⟩]
  refine (congrArg (fun z : (⟨3, ![4, 8192, 2048]⟩ : Shape).Idx => BitVec.ofNat 32 (z 2).val) (along_last _ b n _ _)).trans ?_
  rfl

end Cert.Reads
-- ==== Proof.Spec.lean ====
module

public import proofs.«01_k».proof.Proof.Reals
public import proofs.«01_k».proof.Proof.Reads

@[expose] public section

set_option maxRecDepth 16384

/-! The computation over the reals, which both programs are shown to carry out on finite inputs. -/

noncomputable section

namespace Cert.Spec

open Cert.Reals Cert.Reads
open Idealize.ShloMosaic

variable (q : Fin 4 → Fin 64 → Fin 8192 → ℝ) (p : Fin 4 → Fin 64 → Fin 2048 → ℝ) (W : Fin 64 → Fin 64 → ℝ)
  (g1 β1 : Fin 64 → ℝ) (R : Fin 64 → Fin 128 → ℝ) (g2 β2 : Fin 64 → EReal)

/-- The first convolution, -/
def conv (b : Fin 4) (o : Fin 64) (m : Fin 2048) : ℝ := ∑ c, p b c m * W o c
/-- normalised over batches and points, -/
def bn1 (b : Fin 4) (o : Fin 64) (m : Fin 2048) : ℝ := norm (fun b i => conv p W b o i) 8192 (g1 o) (β1 o) b m
/-- and activated: the coarse features. -/
def feat (b : Fin 4) (o : Fin 64) (m : Fin 2048) : ℝ := leaky (bn1 p W g1 β1 b o m)
/-- The squared distance of a fine point and a coarse point, clipped at zero. -/
def dist (b : Fin 4) (n : Fin 8192) (m : Fin 2048) : ℝ :=
  max ((∑ c, q b c n * q b c n) + (∑ c, p b c m * p b c m) - 2 * ∑ c, q b c n * p b c m) 0
/-- The coarse points by increasing distance. -/
def near (b : Fin 4) (n : Fin 8192) (r : Fin 2048) : Fin 2048 := order (fun m => ((-dist q p b n m : ℝ) : EReal)) r
/-- A position among the first three. -/
def pos (r : Fin 3) : Fin 2048 := ⟨r.val, by omega⟩
/-- The position after it. -/
def next (r : Fin 3) : Fin 2048 := ⟨r.val + 1, by omega⟩
/-- A neighbour's weight, before the weights are divided by their sum. -/
def wt (b : Fin 4) (n : Fin 8192) (r : Fin 3) : ℝ := 1 / (dist q p b n (near q p b n (pos r)) + tiny)
/-- The interpolated feature. -/
def itp (b : Fin 4) (c : Fin 64) (n : Fin 8192) : ℝ :=
  ∑ r : Fin 3, feat p W g1 β1 b c (near q p b n (pos r)) * (wt q p b n r / ∑ r, wt q p b n r)
/-- The second convolution, -/
def mix (b : Fin 4) (o : Fin 64) (n : Fin 8192) : ℝ :=
  (∑ c : Fin 64, q b c n * R o ⟨c.val, by omega⟩) + ∑ c : Fin 64, itp q p W g1 β1 b c n * R o ⟨64 + c.val, by omega⟩
/-- normalised, with a scale and an offset that may be infinite, -/
def bn2 (b : Fin 4) (o : Fin 64) (n : Fin 8192) : EReal := g2 o * (norm (fun b i => mix q p W g1 β1 R b o i) 32768 1 0 b n : EReal) + β2 o
/-- the activation over the extended reals, -/
def act (z : EReal) : EReal := if 0 ≤ z then z else (slope : EReal) * z
/-- and activated: the result. -/
def res (b : Fin 4) (o : Fin 64) (n : Fin 8192) : EReal := act (bn2 q p W g1 β1 R g2 β2 b o n)

/-- A distance is not negative, -/
theorem dist_nonneg (b : Fin 4) (n : Fin 8192) (m : Fin 2048) : 0 ≤ dist q p b n m := le_max_right _ _
/-- so the divisor of a weight is not zero, -/
theorem near_den (b : Fin 4) (n : Fin 8192) (m : Fin 2048) : dist q p b n m + tiny ≠ 0 :=
  (add_pos_of_nonneg_of_pos (dist_nonneg q p b n m) tiny_pos).ne'
/-- a weight is positive, -/
theorem wt_pos (b : Fin 4) (n : Fin 8192) (r : Fin 3) : 0 < wt q p b n r :=
  one_div_pos.mpr (add_pos_of_nonneg_of_pos (dist_nonneg q p b n _) tiny_pos)
/-- and the weights' sum is not zero. -/
theorem wt_sum_ne (b : Fin 4) (n : Fin 8192) : (∑ r, wt q p b n r) ≠ 0 :=
  (Finset.sum_pos (fun r _ => wt_pos q p b n r) Finset.univ_nonempty).ne'

/-- The activation, on a finite number. -/
theorem leaky_read (z : ℝ) :
    (if (0 : EReal) ≤ (z : EReal) then (z : EReal) else (slope : EReal) * (z : EReal)) = ((leaky z : ℝ) : EReal) := by
  unfold leaky
  by_cases h : 0 ≤ z
  · rw [if_pos h, if_pos (by exact_mod_cast h)]
  · rw [if_neg h, if_neg (by exact_mod_cast h), EReal.coe_mul]

/-- The reference's normalisation, on finite numbers. -/
theorem norm_read {n : ℕ} (t : Fin 4 → Fin n → ℝ) (cnt : ℝ) (hc : 0 < cnt) (g β : ℝ) (b : Fin 4) (i : Fin n) (z : EReal) :
    Ideal.div ((g : EReal) * ((t b i : EReal) - ((mu t cnt : ℝ) : EReal)))
      (Ideal.sqrt ((if (0 : EReal) < (cnt : EReal)
        then Ideal.div ((∑ b, ∑ i, (t b i - mu t cnt) * (t b i - mu t cnt) : ℝ) : EReal) (cnt : EReal) else z) + (eps : EReal))) + (β : EReal)
      = ((norm t cnt g β b i : ℝ) : EReal) := by
  rw [if_pos (by exact_mod_cast hc), div_coe _ hc.ne', show (∑ b, ∑ i, (t b i - mu t cnt) * (t b i - mu t cnt)) / cnt = var t cnt from rfl, ← EReal.coe_add,
    sqrt_coe (add_nonneg (var_nonneg t cnt hc.le) eps_pos.le),
    ← EReal.coe_sub, ← EReal.coe_mul, div_coe _ (Real.sqrt_pos.mpr (add_pos_of_nonneg_of_pos (var_nonneg t cnt hc.le) eps_pos)).ne',
    ← EReal.coe_add]
  rfl

/-- The same with any scale and offset, infinite ones too. -/
theorem norm_read_any {n : ℕ} (t : Fin 4 → Fin n → ℝ) (cnt : ℝ) (hc : 0 < cnt) (g β : EReal) (b : Fin 4) (i : Fin n) (z : EReal) :
    Ideal.div (g * ((t b i : EReal) - ((mu t cnt : ℝ) : EReal)))
      (Ideal.sqrt ((if (0 : EReal) < (cnt : EReal)
        then Ideal.div ((∑ b, ∑ i, (t b i - mu t cnt) * (t b i - mu t cnt) : ℝ) : EReal) (cnt : EReal) else z) + (eps : EReal))) + β
      = g * ((norm t cnt 1 0 b i : ℝ) : EReal) + β := by
  rw [if_pos (by exact_mod_cast hc), div_coe _ hc.ne', show (∑ b, ∑ i, (t b i - mu t cnt) * (t b i - mu t cnt)) / cnt = var t cnt from rfl, ← EReal.coe_add,
    sqrt_coe (add_nonneg (var_nonneg t cnt hc.le) eps_pos.le),
    ← EReal.coe_sub, Ideal.div_coe (Real.sqrt_pos.mpr (add_pos_of_nonneg_of_pos (var_nonneg t cnt hc.le) eps_pos)).ne',
    mul_assoc, ← EReal.coe_mul]
  unfold Reals.norm
  rw [one_mul, add_zero, mul_one_div]

end Cert.Spec

end
-- ==== Proof.Features.lean ====
/-
  The first kernel call on finite numbers: its output block holds the coarse features.
-/
module

public import proofs.«01_k».proof.Proof.Region0
public import proofs.«01_k».proof.Proof.Spec
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.KernelIdeal.R0

open Cert.KernelIdeal Cert.KernelIdeal.Gen
open Cert.Reals Cert.Spec
open Idealize.ShloMosaic Idealize.ShloMosaic.TcCoe Idealize.ShloMosaic.Tactic

variable {x0 : Vec Ideal S4x64x2048 .f32} {x1 : Vec Ideal S64x64 .f32} {x2 x3 : Vec Ideal S64x1 .f32}
  {p : Fin 4 → Fin 64 → Fin 2048 → ℝ} {W : Fin 64 → Fin 64 → ℝ} {g β : Fin 64 → ℝ}
  (h0 : ∀ b c m, (x0 (ix3 b c m) : EReal) = (p b c m : EReal)) (h1 : ∀ o c, (x1 (ix2 o c) : EReal) = (W o c : EReal))
  (h2 : ∀ o, (x2 (ix2 o 0) : EReal) = (g o : EReal)) (h3 : ∀ o, (x3 (ix2 o 0) : EReal) = (β o : EReal))

/-- A batch's slice of the block, -/
theorem place (b : ℕ) (hb : b < 4) (inb) (x : S1x64x2048.Idx) :
    (Rect.unit (s := S4x64x2048) ![b, 0, 0] S1x64x2048.size inb).emb x = ix3 ⟨b, hb⟩ (x 1) (x 2) := by
  funext a
  refine Fin.ext ((Rect.idx_unit_val _ _ inb x a).trans ?_)
  match a with
  | ⟨0, _⟩ => exact congrArg (b + ·) (Nat.lt_one_iff.mp (x 0).isLt)
  | ⟨1, _⟩ => exact Nat.zero_add _
  | ⟨2, _⟩ => exact Nat.zero_add _
/-- whose own batch is its only one. -/
theorem only (x : S1x64x2048.Idx) : x = ix3 0 (x 1) (x 2) := by
  funext a
  refine Fin.ext ?_
  match a with
  | ⟨0, _⟩ => exact Nat.lt_one_iff.mp (x 0).isLt
  | ⟨1, _⟩ => rfl
  | ⟨2, _⟩ => rfl

section
include h0 h1
/-! The convolution, a batch at a time. -/
theorem conv0 (o : Fin 64) (m : Fin 2048) : (k0_pay2 (View.ld x1 rW) (View.ld x0 rX0) (ix2 o m) : EReal) = (conv p W 0 o m : EReal) := by
  unfold k0_pay2
  clean_types
  pointwise
  simp only [h0, h1, ← EReal.coe_mul, ← coe_sum]
  exact congrArg _ (Finset.sum_congr rfl fun c _ => mul_comm _ _)
/-- The same of the second batch, -/
theorem conv1 (o : Fin 64) (m : Fin 2048) : (k0_pay3 (View.ld x1 rW) (View.ld x0 rX1) (ix2 o m) : EReal) = (conv p W 1 o m : EReal) := by
  unfold k0_pay3
  clean_types
  pointwise
  simp only [h0, h1, ← EReal.coe_mul, ← coe_sum]
  exact congrArg _ (Finset.sum_congr rfl fun c _ => mul_comm _ _)
/-- of the third, -/
theorem conv2 (o : Fin 64) (m : Fin 2048) : (k0_pay4 (View.ld x1 rW) (View.ld x0 rX2) (ix2 o m) : EReal) = (conv p W 2 o m : EReal) := by
  unfold k0_pay4
  clean_types
  pointwise
  simp only [h0, h1, ← EReal.coe_mul, ← coe_sum]
  exact congrArg _ (Finset.sum_congr rfl fun c _ => mul_comm _ _)
/-- and of the fourth. -/
theorem conv3 (o : Fin 64) (m : Fin 2048) : (k0_pay8 (View.ld x1 rW) (k0_pay7 (View.ld x0 rX3)) (ix2 o m) : EReal) = (conv p W 3 o m : EReal) := by
  unfold k0_pay8 k0_pay7
  clean_types
  pointwise
  simp only [h0, h1, ← EReal.coe_mul, ← coe_sum]
  exact congrArg _ (Finset.sum_congr rfl fun c _ => mul_comm _ _)

/-- The mean over all batches and points, -/
theorem mean_read (o : Fin 64) : (mean x0 x1 (ix2 o 0) : EReal) = (mu (fun b i => conv p W b o i) 8192 : EReal) := by
  have e0 := conv0 h0 h1 o
  have e1 := conv1 h0 h1 o
  have e2 := conv2 h0 h1 o
  have e3 := conv3 h0 h1 o
  unfold mean k0_pay9 sum3 k0_pay5
  clean_types
  pointwise
  simp only [e0, e1, e2, e3, lit_8192, ← coe_sum, ← EReal.coe_add, div_coe _ (show (8192 : ℝ) ≠ 0 by norm_num)]
  unfold mu
  rw [Fin.sum_univ_four]

include h2
/-- and the scale. -/
theorem scale_read (o : Fin 64) : (scale x0 x1 x2 (ix2 o 0) : EReal) =
    ((g o * (Real.sqrt ((∑ b, ∑ i, conv p W b o i * conv p W b o i) / 8192 -
      mu (fun b i => conv p W b o i) 8192 * mu (fun b i => conv p W b o i) 8192 + eps))⁻¹ : ℝ) : EReal) := by
  have e0 := conv0 h0 h1 o
  have e1 := conv1 h0 h1 o
  have e2 := conv2 h0 h1 o
  have e3 := conv3 h0 h1 o
  have em := mean_read h0 h1 o
  unfold mean at em
  unfold scale k0_pay10 sq3 k0_pay6
  clean_types
  pointwise
  simp only [e0, e1, e2, e3, em, h2, lit_8192, lit_eps, ← EReal.coe_mul, ← coe_sum, ← EReal.coe_add, div_coe _ (show (8192 : ℝ) ≠ 0 by norm_num), ← EReal.coe_sub]
  have hp := spread_pos (fun b i => conv p W b o i) 8192 (by norm_num) (by norm_num)
  rw [Fin.sum_univ_four] at hp ⊢
  rw [rsqrt_coe hp, EReal.coe_mul]

include h3
/-- The piece stored for the first batch holds its coarse features. -/
theorem piece0_read (o : Fin 64) (m : Fin 2048) : (piece0 x0 x1 x2 x3 (ix3 0 o m) : EReal) = (feat p W g β 0 o m : EReal) := by
  have e1 := mean_read h0 h1 o
  have e2 := scale_read h0 h1 h2 o
  have e3 := conv0 h0 h1 o m
  unfold piece0 k0_pay11
  unfold mean at e1; unfold scale at e2
  clean_types
  pointwise
  simp only [e1, e2, e3, h3, lit_slope]
  have k := norm_kernel (fun b i => conv p W b o i) 8192 (by norm_num) (by norm_num) (g o) (β o) 0 m
  simp only [k, leaky_read]
  rfl
/-- The same of the second batch, -/
theorem piece1_read (o : Fin 64) (m : Fin 2048) : (piece1 x0 x1 x2 x3 (ix3 0 o m) : EReal) = (feat p W g β 1 o m : EReal) := by
  have e1 := mean_read h0 h1 o
  have e2 := scale_read h0 h1 h2 o
  have e3 := conv1 h0 h1 o m
  unfold piece1 k0_pay14 k0_pay12 k0_pay13
  unfold mean at e1; unfold scale at e2
  clean_types
  pointwise
  simp only [e1, e2, e3, h3, lit_slope]
  have k := norm_kernel (fun b i => conv p W b o i) 8192 (by norm_num) (by norm_num) (g o) (β o) 1 m
  simp only [k, leaky_read]
  rfl
/-- of the third, -/
theorem piece2_read (o : Fin 64) (m : Fin 2048) : (piece2 x0 x1 x2 x3 (ix3 0 o m) : EReal) = (feat p W g β 2 o m : EReal) := by
  have e1 := mean_read h0 h1 o
  have e2 := scale_read h0 h1 h2 o
  have e3 := conv2 h0 h1 o m
  unfold piece2 k0_pay15
  skip
  clean_types
  pointwise
  simp only [e1, e2, e3, h3, lit_slope]
  have k := norm_kernel (fun b i => conv p W b o i) 8192 (by norm_num) (by norm_num) (g o) (β o) 2 m
  simp only [k, leaky_read]
  rfl
/-- and of the fourth. -/
theorem piece3_read (o : Fin 64) (m : Fin 2048) : (piece3 x0 x1 x2 x3 (ix3 0 o m) : EReal) = (feat p W g β 3 o m : EReal) := by
  have e1 := mean_read h0 h1 o
  have e2 := scale_read h0 h1 h2 o
  have e3 := conv3 h0 h1 o m
  unfold piece3 k0_pay1 k0_pay16
  skip
  clean_types
  pointwise
  simp only [e1, e2, e3, h3, lit_slope]
  have k := norm_kernel (fun b i => conv p W b o i) 8192 (by norm_num) (by norm_num) (g o) (β o) 3 m
  simp only [k, leaky_read]
  rfl

/-- The coarse features, as a block. -/
def block (p : Fin 4 → Fin 64 → Fin 2048 → ℝ) (W : Fin 64 → Fin 64 → ℝ) (g β : Fin 64 → ℝ) : Vec Ideal S4x64x2048 .f32 :=
  fun y => ((feat p W g β (y 0) (y 1) (y 2) : ℝ) : EReal)

/-- The first stored piece is its place's part of the coarse features, -/
theorem piece0_block (x : S1x64x2048.Idx) : piece0 x0 x1 x2 x3 x = block p W g β (rX0.emb x) := by
  rw [show rX0.emb x = ix3 0 (x 1) (x 2) from place 0 (by decide) _ x, only x]
  exact piece0_read h0 h1 h2 h3 _ _
/-- the second, -/
theorem piece1_block (x : S1x64x2048.Idx) : piece1 x0 x1 x2 x3 x = block p W g β (rX1.emb x) := by
  rw [show rX1.emb x = ix3 1 (x 1) (x 2) from place 1 (by decide) _ x, only x]
  exact piece1_read h0 h1 h2 h3 _ _
/-- the third, -/
theorem piece2_block (x : S1x64x2048.Idx) : piece2 x0 x1 x2 x3 x = block p W g β (rX2.emb x) := by
  rw [show rX2.emb x = ix3 2 (x 1) (x 2) from place 2 (by decide) _ x, only x]
  exact piece2_read h0 h1 h2 h3 _ _
/-- and the fourth. -/
theorem piece3_block (x : S1x64x2048.Idx) : piece3 x0 x1 x2 x3 x = block p W g β (rX3.emb x) := by
  rw [show rX3.emb x = ix3 3 (x 1) (x 2) from place 3 (by decide) _ x, only x]
  exact piece3_read h0 h1 h2 h3 _ _
/-- The output block holds the coarse features. -/
theorem out_read : out x0 x1 x2 x3 = block p W g β := by
  funext y
  unfold out
  refine View.canon_apply_of_pieces (block p W g β) _ ?_ _ (cover _ _ _ _ _)
  intro pc hpc x
  simp only [List.mem_cons, List.not_mem_nil, or_false] at hpc
  rcases hpc with rfl | rfl | rfl | rfl
  · exact piece3_block h0 h1 h2 h3 x
  · exact piece2_block h0 h1 h2 h3 x
  · exact piece1_block h0 h1 h2 h3 x
  · exact piece0_block h0 h1 h2 h3 x
end

end Cert.KernelIdeal.R0

end
-- ==== Proof.Nearest.lean ====
/-
  The three least of many numbers by lanes: a lane keeps its three least by one pass of minima and maxima, and
  three rounds of "the least over the lanes, its lane moved up" read off the three least of all, when the three
  are strictly below one another and below every other number.
-/
module

public import Idealize.ShloMosaic.Lib.Pointwise

@[expose] public section

namespace Cert.Nearest

/-- The lane of a position. -/
def lane (m : Fin 2048) : Fin 128 := ⟨m.val % 128, Nat.mod_lt _ (by decide)⟩

/-- How many numbers of the positions `S` on lane `l` are at most `t`. -/
noncomputable def num (d : Fin 2048 → EReal) (S : Finset (Fin 2048)) (l : Fin 128) (t : EReal) : ℕ :=
  (S.filter fun m => lane m = l ∧ d m ≤ t).card

/-- `g` holds, by lanes, the `n`-th least number of the positions `S`. -/
def Holds (d : Fin 2048 → EReal) (S : Finset (Fin 2048)) (n : ℕ) (g : Fin 128 → EReal) : Prop :=
  ∀ l t, t < ⊤ → (g l ≤ t ↔ n ≤ num d S l t)

variable {d : Fin 2048 → EReal} {S : Finset (Fin 2048)}

/-- Of no positions there is no number. -/
theorem num_empty (l : Fin 128) (t : EReal) : num d ∅ l t = 0 := by simp [num]

/-- Nothing holds infinity by lanes. -/
theorem holds_empty (n : ℕ) (hn : 1 ≤ n) (g : Fin 128 → EReal) (hg : ∀ l, g l = ⊤) : Holds d ∅ n g := by
  intro l t ht
  rw [hg, num_empty]
  constructor
  · intro h; exact absurd (lt_of_le_of_lt h ht) (lt_irrefl _)
  · intro h; omega

/-- The positions of the first `k` chunks. -/
def upTo (k : ℕ) : Finset (Fin 2048) := Finset.univ.filter fun m => m.val < 128 * k

/-- Before any chunk, no position has been seen; -/
theorem upTo_zero : upTo 0 = ∅ := by
  simp [upTo]

/-- after sixteen, every one has. -/
theorem upTo_all : upTo 16 = Finset.univ := by
  ext m; simp [upTo]

/-- One chunk more: a lane gains the chunk's number at the lane. -/
theorem num_succ (k : ℕ) (hk : k < 16) (l : Fin 128) (t : EReal) (x : EReal)
    (hx : x = d ⟨128 * k + l.val, by omega⟩) :
    num d (upTo (k + 1)) l t = num d (upTo k) l t + (if x ≤ t then 1 else 0) := by
  have hset : (upTo (k + 1)).filter (fun m => lane m = l ∧ d m ≤ t)
      = if x ≤ t then insert (⟨128 * k + l.val, by omega⟩ : Fin 2048) ((upTo k).filter fun m => lane m = l ∧ d m ≤ t)
        else (upTo k).filter fun m => lane m = l ∧ d m ≤ t := by
    have key : ∀ m : Fin 2048, m.val < 128 * (k + 1) → lane m = l → m.val < 128 * k ∨ m = ⟨128 * k + l.val, by omega⟩ := by
      intro m hm hl
      have h1 : m.val % 128 = l.val := congrArg Fin.val hl
      rcases Nat.lt_or_ge m.val (128 * k) with h | h
      · exact .inl h
      · right; apply Fin.ext; show m.val = 128 * k + l.val; omega
    have hlane : lane ⟨128 * k + l.val, by omega⟩ = l := by
      apply Fin.ext; show (128 * k + l.val) % 128 = l.val; omega
    split_ifs with h
    · ext m
      simp only [upTo, Finset.mem_filter, Finset.mem_univ, true_and, Finset.mem_insert]
      constructor
      · rintro ⟨h1, h2, h3⟩
        rcases key m h1 h2 with h4 | h4
        · exact .inr ⟨h4, h2, h3⟩
        · exact .inl h4
      · rintro (rfl | ⟨h1, h2, h3⟩)
        · exact ⟨by show 128 * k + l.val < _; omega, hlane, hx ▸ h⟩
        · exact ⟨by omega, h2, h3⟩
    · ext m
      simp only [upTo, Finset.mem_filter, Finset.mem_univ, true_and]
      constructor
      · rintro ⟨h1, h2, h3⟩
        rcases key m h1 h2 with h4 | h4
        · exact ⟨h4, h2, h3⟩
        · exact absurd (hx ▸ h4 ▸ h3) h
      · rintro ⟨h1, h2, h3⟩
        exact ⟨by omega, h2, h3⟩
  unfold num
  rw [hset]
  split_ifs with h
  · rw [Finset.card_insert_of_notMem]
    simp [upTo]
  · simp

/-- The pass's step on the least, -/
theorem step_a (k : ℕ) (hk : k < 16) (a x : Fin 128 → EReal)
    (hx : ∀ l : Fin 128, x l = d ⟨128 * k + l.val, by omega⟩) (ha : Holds d (upTo k) 1 a) :
    Holds d (upTo (k + 1)) 1 (fun l => min (a l) (x l)) := by
  intro l t ht
  rw [num_succ k hk l t (x l) (hx l), min_le_iff, ha l t ht]
  split_ifs with h <;> simp [h]

/-- on the second least, -/
theorem step_b (k : ℕ) (hk : k < 16) (a b x : Fin 128 → EReal)
    (hx : ∀ l : Fin 128, x l = d ⟨128 * k + l.val, by omega⟩) (ha : Holds d (upTo k) 1 a) (hb : Holds d (upTo k) 2 b) :
    Holds d (upTo (k + 1)) 2 (fun l => min (b l) (max (a l) (x l))) := by
  intro l t ht
  rw [num_succ k hk l t (x l) (hx l), min_le_iff, max_le_iff, ha l t ht, hb l t ht]
  split_ifs with h <;> simp [h]
  omega

/-- and on the third. -/
theorem step_c (k : ℕ) (hk : k < 16) (a b c x : Fin 128 → EReal)
    (hx : ∀ l : Fin 128, x l = d ⟨128 * k + l.val, by omega⟩) (ha : Holds d (upTo k) 1 a) (hb : Holds d (upTo k) 2 b)
    (hc : Holds d (upTo k) 3 c) :
    Holds d (upTo (k + 1)) 3 (fun l => min (c l) (max (b l) (max (a l) (x l)))) := by
  intro l t ht
  rw [num_succ k hk l t (x l) (hx l), min_le_iff, max_le_iff, max_le_iff, ha l t ht, hb l t ht, hc l t ht]
  split_ifs with h <;> simp [h]
  omega

/-- The position `i` is strictly the least of `S`. -/
def Least (d : Fin 2048 → EReal) (S : Finset (Fin 2048)) (i : Fin 2048) : Prop :=
  i ∈ S ∧ d i < ⊤ ∧ ∀ m ∈ S, m ≠ i → d i < d m

/-- Below the least number there is none. -/
theorem num_below {i : Fin 2048} (hi : Least d S i) (l : Fin 128) (t : EReal) (ht : t < d i) : num d S l t = 0 := by
  unfold num
  rw [Finset.card_eq_zero, Finset.filter_eq_empty_iff]
  rintro m hm ⟨-, h⟩
  by_cases hmi : m = i
  · subst hmi; exact absurd ht (not_lt.mpr h)
  · exact absurd ((hi.2.2 m hm hmi).trans_le h) (not_lt.mpr ht.le)

/-- At the least number there is itself, on its lane. -/
theorem num_at {i : Fin 2048} (hi : Least d S i) (l : Fin 128) : 1 ≤ num d S l (d i) ↔ lane i = l := by
  unfold num
  rw [Nat.one_le_iff_ne_zero, Finset.card_ne_zero]
  constructor
  · rintro ⟨m, hm⟩
    obtain ⟨hm, hl, hd⟩ := Finset.mem_filter.mp hm
    by_cases hmi : m = i
    · exact hmi ▸ hl
    · exact absurd (hi.2.2 m hm hmi) (not_lt.mpr hd)
  · intro h
    exact ⟨i, Finset.mem_filter.mpr ⟨hi.1, h, le_refl _⟩⟩

/-- No lane's least is below the least of all, -/
theorem least_le {i : Fin 2048} (hi : Least d S i) {a : Fin 128 → EReal} (ha : Holds d S 1 a) (l : Fin 128) : d i ≤ a l := by
  by_contra h
  rw [not_le] at h
  have h1 := (ha l (a l) (h.trans hi.2.1)).mp (le_refl _)
  rw [num_below hi l _ h] at h1
  omega

/-- and the lane whose least it is is its own. -/
theorem eq_least_iff {i : Fin 2048} (hi : Least d S i) {a : Fin 128 → EReal} (ha : Holds d S 1 a) (l : Fin 128) :
    a l = d i ↔ lane i = l := by
  rw [← num_at hi l, ← ha l (d i) hi.2.1]
  exact ⟨fun h => h.le, fun h => le_antisymm h (least_le hi ha l)⟩

/-- The least over the lanes is the least of all. -/
theorem fold_least {i : Fin 2048} (hi : Least d S i) {a : Fin 128 → EReal} (ha : Holds d S 1 a) :
    Finset.univ.fold min ⊤ a = d i := by
  apply le_antisymm
  · exact (Finset.fold_min_le _).mpr (.inr ⟨lane i, Finset.mem_univ _, ((eq_least_iff hi ha _).mpr rfl).le⟩)
  · exact (Finset.le_fold_min _).mpr ⟨le_top, fun l _ => least_le hi ha l⟩

/-- The lane of the least moved up, the lanes hold the same of the other positions. -/
theorem holds_erase {i : Fin 2048} (hi : Least d S i) {a g h : Fin 128 → EReal} (ha : Holds d S 1 a) (n : ℕ) (hn : 1 ≤ n)
    (hg : Holds d S n g) (hh : Holds d S (n + 1) h) : Holds d (S.erase i) n (fun l => if a l = d i then h l else g l) := by
  intro l t ht
  have hnum : num d S l t = num d (S.erase i) l t + (if lane i = l ∧ d i ≤ t then 1 else 0) := by
    unfold num
    rw [Finset.filter_erase]
    split_ifs with hc
    · rw [Finset.card_erase_add_one (Finset.mem_filter.mpr ⟨hi.1, hc⟩)]
    · rw [Finset.erase_eq_of_notMem]; · rfl
      exact fun hm => hc (Finset.mem_filter.mp hm).2
  show (if a l = d i then h l else g l) ≤ t ↔ _
  by_cases hl : lane i = l
  · rw [if_pos ((eq_least_iff hi ha l).mpr hl), hh l t ht]
    by_cases hd : d i ≤ t
    · rw [if_pos ⟨hl, hd⟩] at hnum; omega
    · have h0 := num_below hi l t (not_le.mp hd)
      rw [if_neg (fun hc => hd hc.2)] at hnum; omega
  · rw [if_neg (fun hc => hl ((eq_least_iff hi ha l).mp hc)), hg l t ht]
    rw [if_neg (fun hc => hl hc.1)] at hnum; omega

/-- The three rounds read off the three least numbers. -/
theorem three {i1 i2 i3 : Fin 2048} (h1 : Least d Finset.univ i1) (h2 : Least d (Finset.univ.erase i1) i2)
    (h3 : Least d ((Finset.univ.erase i1).erase i2) i3) {a b c : Fin 128 → EReal} (ha : Holds d Finset.univ 1 a)
    (hb : Holds d Finset.univ 2 b) (hc : Holds d Finset.univ 3 c) (v1 v2 : EReal) (a2 b2 a3 : Fin 128 → EReal)
    (e1 : v1 = Finset.univ.fold min ⊤ a) (ea2 : ∀ l, a2 l = if a l = v1 then b l else a l)
    (eb2 : ∀ l, b2 l = if a l = v1 then c l else b l) (e2 : v2 = Finset.univ.fold min ⊤ a2)
    (ea3 : ∀ l, a3 l = if a2 l = v2 then b2 l else a2 l) :
    v1 = d i1 ∧ v2 = d i2 ∧ Finset.univ.fold min ⊤ a3 = d i3 := by
  have hv1 : v1 = d i1 := e1.trans (fold_least h1 ha)
  subst hv1
  have hA2 : Holds d (Finset.univ.erase i1) 1 a2 := by
    rw [show a2 = _ from funext ea2]; exact holds_erase h1 ha 1 le_rfl ha hb
  have hB2 : Holds d (Finset.univ.erase i1) 2 b2 := by
    rw [show b2 = _ from funext eb2]; exact holds_erase h1 ha 2 (by decide) hb hc
  have hv2 : v2 = d i2 := e2.trans (fold_least h2 hA2)
  subst hv2
  refine ⟨rfl, rfl, fold_least h3 ?_⟩
  rw [show a3 = _ from funext ea3]; exact holds_erase h2 hA2 1 le_rfl hA2 hB2

end Cert.Nearest

end
-- ==== Proof.Network.lean ====
module

public import proofs.«01_k».proof.Proof.Nearest
public import proofs.«01_k».proof.Proof.Reals
public import proofs.«01_k».proof.Proof.Region1
public import Idealize.ShloMosaic.Lib.Pointwise

@[expose] public section

set_option maxRecDepth 16384

/-! The second kernel's pass over sixteen chunks of distances, lane by lane, and the three minima it ends with. -/

noncomputable section

namespace Cert.Nearest

variable (d : Fin 2048 → EReal)

/-- The chunk `k` of a row of distances. -/
def chunk (k : ℕ) (l : Fin 128) : EReal := if h : k < 16 then d ⟨128 * k + l.val, by omega⟩ else ⊤

/-- The least of the first `k` chunks in each lane, -/
def netA : ℕ → Fin 128 → EReal
  | 0 => fun _ => ⊤
  | k + 1 => fun l => min (netA k l) (chunk d k l)
/-- the second least, -/
def netB : ℕ → Fin 128 → EReal
  | 0 => fun _ => ⊤
  | k + 1 => fun l => min (netB k l) (max (netA d k l) (chunk d k l))
/-- and the third. -/
def netC : ℕ → Fin 128 → EReal
  | 0 => fun _ => ⊤
  | k + 1 => fun l => min (netC k l) (max (netB d k l) (max (netA d k l) (chunk d k l)))

/-- What the pass has found after `k` chunks. -/
theorem net_holds (k : ℕ) (hk : k ≤ 16) :
    Holds d (upTo k) 1 (netA d k) ∧ Holds d (upTo k) 2 (netB d k) ∧ Holds d (upTo k) 3 (netC d k) := by
  induction k with
  | zero =>
    rw [upTo_zero]
    exact ⟨holds_empty 1 le_rfl _ fun _ => rfl, holds_empty 2 (by decide) _ fun _ => rfl,
      holds_empty 3 (by decide) _ fun _ => rfl⟩
  | succ k ih =>
    have hk' : k < 16 := hk
    obtain ⟨ha, hb, hc⟩ := ih hk'.le
    have hx : ∀ l : Fin 128, chunk d k l = d ⟨128 * k + l.val, by omega⟩ := fun l => by simp [chunk, hk']
    exact ⟨step_a k hk' _ _ hx ha, step_b k hk' _ _ _ hx ha hb, step_c k hk' _ _ _ _ hx ha hb hc⟩

end Cert.Nearest

namespace Cert.KernelIdeal.R1

open Cert.KernelIdeal Cert.KernelIdeal.Gen Cert.Nearest
open Idealize.ShloMosaic Idealize.ShloMosaic.TcCoe Idealize.ShloMosaic.Tactic

variable (q : Vec Ideal S1x64x256 .f32) (k : Vec Ideal S1x64x2048 .f32)

/-! The same pass over whole blocks: every row of `D` in parallel. -/

section Blocks
variable (D : FVec Ideal S256x2048 .f32)

/-- The chunk `n` of every row, -/
def bX (n : ℕ) : FVec Ideal S256x128 .f32 := fun j => chunk (fun m => D (ix2 (j 0) m)) n (j 1)
/-- the least so far, -/
def bA (n : ℕ) : FVec Ideal S256x128 .f32 := fun j => netA (fun m => D (ix2 (j 0) m)) n (j 1)
/-- the second least, -/
def bB (n : ℕ) : FVec Ideal S256x128 .f32 := fun j => netB (fun m => D (ix2 (j 0) m)) n (j 1)
/-- the third, -/
def bC (n : ℕ) : FVec Ideal S256x128 .f32 := fun j => netC (fun m => D (ix2 (j 0) m)) n (j 1)
/-- what a chunk passes on to the second, -/
def bT (n : ℕ) : FVec Ideal S256x128 .f32 := maximumf (bA D n) (bX D n)
/-- and to the third. -/
def bU (n : ℕ) : FVec Ideal S256x128 .f32 := maximumf (bB D n) (bT D n)
/-- All infinite. -/
def bTop : FVec Ideal S256x128 .f32 := fun _ => ⊤

/-- A slice of 128 columns is a chunk. -/
theorem bX_eq (o : ℕ) (h : S256x2048.Slices ![0, o] S256x128) (ho : o = 128 * (o / 128)) (hk : o / 128 < 16) :
    extractStridedSlice S256x128 ![0, o] D h = bX D (o / 128) := by
  funext j
  idx_vars j
  pointwise
  simp only [bX, chunk, hk, dif_pos]
  refine congrArg D (funext fun a => Fin.ext ?_)
  match a with
  | ⟨0, _⟩ => rfl
  | ⟨1, _⟩ => exact congrArg (· + _) ho
/-- The starting block is plus infinity everywhere. -/
theorem bTop_eq : broadcast S256x128 (Scalar.ofBits (F := Ideal) .f32 0x7F800000#32) = bTop := by
  funext j; exact Reals.lit_inf
/-- The first chunk is its own least, -/
theorem bA_one : minimumf bTop (bX D 0) = bA D 1 := rfl
/-- what it displaces from the least, -/
theorem bT_zero : maximumf bTop (bX D 0) = bT D 0 := rfl
/-- the second least after it, -/
theorem bB_one : minimumf bTop (bT D 0) = bB D 1 := rfl
/-- what it displaces from the second least, -/
theorem bU_zero : maximumf bTop (bT D 0) = bU D 0 := rfl
/-- and the third least after it. -/
theorem bC_one : minimumf bTop (bU D 0) = bC D 1 := rfl
/-- One chunk on, the least, -/
theorem bA_succ (n : ℕ) : minimumf (bA D n) (bX D n) = bA D (n + 1) := rfl
/-- what is displaced from it, -/
theorem bT_fold (n : ℕ) : maximumf (bA D n) (bX D n) = bT D n := rfl
/-- the second least, -/
theorem bB_succ (n : ℕ) : minimumf (bB D n) (bT D n) = bB D (n + 1) := rfl
/-- what is displaced from that, -/
theorem bU_fold (n : ℕ) : maximumf (bB D n) (bT D n) = bU D n := rfl
/-- and the third least. -/
theorem bC_succ (n : ℕ) : minimumf (bC D n) (bU D n) = bC D (n + 1) := rfl
end Blocks

/-- The kernel's pass ends with the recursion's least, second and third. -/
theorem pass_least : k1_pay76 (dist q k) (mid102 q k) = bA (dist q k) 16 := by
  simp only [mid102, k1_pay8, k1_pay9, k1_pay10, k1_pay11, k1_pay12, k1_pay13, k1_pay14, k1_pay15, k1_pay16, k1_pay17, k1_pay18, k1_pay19, k1_pay20, k1_pay21, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay65, k1_pay66, k1_pay67, k1_pay68, k1_pay69, k1_pay70, k1_pay71, k1_pay72, k1_pay73, k1_pay74, k1_pay75, k1_pay76, show k1_pay7 q k = dist q k from rfl, bX_eq, bTop_eq,
    bA_one, bA_succ, Nat.reduceDiv, Nat.reduceMul, Nat.reduceLT, Nat.reduceAdd]
/-- The body's second least values are those after all sixteen chunks, -/
theorem pass_second : k1_pay77 (dist q k) (mid98 q k) (mid101 q k) (mid102 q k) = bB (dist q k) 16 := by
  simp only [mid98, mid101, mid102, k1_pay8, k1_pay9, k1_pay10, k1_pay11, k1_pay12, k1_pay13, k1_pay14, k1_pay15, k1_pay16, k1_pay17, k1_pay18, k1_pay19, k1_pay20, k1_pay21, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay65, k1_pay66, k1_pay67, k1_pay68, k1_pay69, k1_pay70, k1_pay71, k1_pay72, k1_pay73, k1_pay74, k1_pay75, k1_pay76, k1_pay77, show k1_pay7 q k = dist q k from rfl, bX_eq, bTop_eq,
    bA_one, bT_zero, bB_one, bA_succ, bT_fold, bB_succ, Nat.reduceDiv, Nat.reduceMul, Nat.reduceLT, Nat.reduceAdd]

/-- The third distance, from the three. -/
def third (a b c : FVec Ideal S256x128 .f32) (m1 : IVec S256x128 1) (v2 : FVec Ideal S256x1 .f32) (a2 : FVec Ideal S256x128 .f32) : FVec Ideal S256x1 .f32 :=
  shapeCast S256x1 (multiReduction .minimumf [1] S256 (select (cmpf .oeq a2 (broadcastTo S256x128 v2 broadcasts_S256x1_S256x128)) (select m1 c b) a2)
    0x7F800000#32 reduces_S256x128_S256 (.inl rfl) rfl) shapeCasts_S256_S256x1
/-- and its third least value is the least of what the first two strikes leave. -/
theorem pass_third : k1_pay82 (dist q k) (mid98 q k) (mid99 q k) (mid101 q k) (mid102 q k) (mid103 q k) =
    third (bA (dist q k) 16) (bB (dist q k) 16) (bC (dist q k) 16) (k1_pay79 (dist q k) (mid102 q k))
      (k1_pay81 (dist q k) (mid98 q k) (mid101 q k) (mid102 q k)) (k1_pay80 (dist q k) (mid98 q k) (mid101 q k) (mid102 q k)) := by
  unfold k1_pay82 third
  simp only [pass_second]
  simp only [mid98, mid99, mid101, mid102, mid103, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, show k1_pay7 q k = dist q k from rfl, bX_eq, bTop_eq,
    bA_one, bT_zero, bB_one, bU_zero, bC_one, bA_succ, bT_fold, bB_succ, bU_fold, bC_succ,
    Nat.reduceDiv, Nat.reduceMul, Nat.reduceLT, Nat.reduceAdd]

end Cert.KernelIdeal.R1

end
-- ==== Proof.Apart.lean ====
/-
  The precondition read back: the arguments the result depends on are finite, and each fine point's four least distances
  are pairwise different.  Its three neighbours are then the only coarse points within the third least distance.
-/
module

public import proofs.«01_k».proof.Proof.Gen.Pre_separated
public import proofs.«01_k».proof.Proof.Spec
public import proofs.«01_k».proof.Proof.Nearest
public import Idealize.ShloMosaic.Lib.ReduceAll
public import Idealize.ShloMosaic.Lib.Pointwise
public import Idealize.ShloMosaic.Lib.Tactic
public import Idealize.ShloMosaic.Lib.Tactic.CleanTypes

@[expose] public section

set_option maxRecDepth 16384

noncomputable section

namespace Cert.Apart

open Cert.Pre_separated Cert.Pre_separated.Facts
open Cert.Reals Cert.Reads Cert.Spec
open Idealize.ShloMosaic

/-- A comparison word that is one says that its first number is less. -/
theorem olt_one {a b : EReal} (h : FloatOps.cmpf (F := Ideal) (φ := .f32) .olt a b = 1#1) : a < b := by
  by_contra hn
  have : FloatOps.cmpf (F := Ideal) (φ := .f32) .olt a b = 0#1 := by
    simp [FloatOps.cmpf, Ideal.cmp, hn]
  rw [this] at h
  exact absurd h (by decide)

/-- The test of one array's finiteness, read at an element. -/
theorem finite {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32))) (constantI S_ 1 1#1) h hu ix0 = 1#1)
    (i : s.Idx) : (x i : EReal) = ((x i : EReal).toReal : EReal) := by
  haveI : Subsingleton S_.Idx := ⟨fun a b => funext fun d => d.elim0⟩
  have h1 := Host.reduce_andi_all _ _ h hu _ e i
  have h2 := olt_one h1
  refine eq_coe ?_
  have h3 : (FloatOps.ofBits (F := Ideal) .f32 0x7F800000#32 : EReal) = ⊤ := lit_inf
  rw [← h3]
  exact h2

variable (a0 : FVec Ideal S4x64x8192 .f32) (a1 : FVec Ideal S4x64x2048 .f32) (a2 : IVec S4x2048 32) (a3 : FVec Ideal S4x3x2048 .f32)
  (a4 : FVec Ideal S4x64x2048 .f32) (a5 : IVec S4x2048 32) (a6 : FVec Ideal S4x3x8192 .f32) (a7 : FVec Ideal S64x64 .f32)
  (a8 a9 : FVec Ideal S64 .f32) (a10 : FVec Ideal S64x128 .f32) (a11 a12 : FVec Ideal S64 .f32)

/-- The numbers of the fine points, -/
def fine (b : Fin 4) (c : Fin 64) (n : Fin 8192) : ℝ := (a0 (ix3 b c n) : EReal).toReal
/-- of the coarse points, -/
def coarse (b : Fin 4) (c : Fin 64) (m : Fin 2048) : ℝ := (a1 (ix3 b c m) : EReal).toReal

/-- What the precondition says. -/
structure Said : Prop where
  f0 : ∀ b c n, (a0 (ix3 b c n) : EReal) = ((a0 (ix3 b c n) : EReal).toReal : EReal)
  f1 : ∀ b c m, (a1 (ix3 b c m) : EReal) = ((a1 (ix3 b c m) : EReal).toReal : EReal)
  f7 : ∀ o c, (a7 (ix2 o c) : EReal) = ((a7 (ix2 o c) : EReal).toReal : EReal)
  f8 : ∀ o, (a8 (ix1 o) : EReal) = ((a8 (ix1 o) : EReal).toReal : EReal)
  f9 : ∀ o, (a9 (ix1 o) : EReal) = ((a9 (ix1 o) : EReal).toReal : EReal)
  f10 : ∀ o c, (a10 (ix2 o c) : EReal) = ((a10 (ix2 o c) : EReal).toReal : EReal)
  apart : ∀ b n (r : Fin 3), dist (fine a0) (coarse a1) b n (near (fine a0) (coarse a1) b n (pos r)) <
    dist (fine a0) (coarse a1) b n (near (fine a0) (coarse a1) b n (next r))

/-- Two neighbouring values of the four largest, one less than the other, are so at the places where they stand. -/
theorem falls (x : FVec Ideal S4x8192x2048 .f32) {b : Fin 4} {n : Fin 8192} {f : Fin 2048 → EReal} (e : ∀ m, (x (ix3 b n m) : EReal) = f m) (r : Fin 3)
    (hK : S4x8192x2048.Slices (fun _ => 0) S4x8192x4)
    (h1 : S4x8192x4.Slices ![0, 0, 1] S4x8192x3) (h0 : S4x8192x4.Slices ![0, 0, 0] S4x8192x3)
    (h : (extractStridedSlice S4x8192x3 ![0, 0, 1] (Host.topK S4x8192x4 2 (FloatOps.cmpfTotal (F := Ideal) (φ := .f32) .gt) x hK).1 h1 (ix3 b n r) : EReal) <
      extractStridedSlice S4x8192x3 ![0, 0, 0] (Host.topK S4x8192x4 2 (FloatOps.cmpfTotal (F := Ideal) (φ := .f32) .gt) x hK).1 h0 (ix3 b n r)) :
    f (order f (next r)) < f (order f (pos r)) := by
  have s1 : ∀ (y : FVec Ideal S4x8192x4 .f32), (extractStridedSlice S4x8192x3 ![0, 0, 1] y h1 (ix3 b n r) : EReal) = y (ix3 b n ⟨r.val + 1, by omega⟩) := by
    intro y; pointwise; exact congrArg (fun z => y (ix3 b n z)) (Fin.ext (Nat.add_comm _ _))
  have s0 : ∀ (y : FVec Ideal S4x8192x4 .f32), (extractStridedSlice S4x8192x3 ![0, 0, 0] y h0 (ix3 b n r) : EReal) = y (ix3 b n ⟨r.val, by omega⟩) := by
    intro y; pointwise
  rw [s1, s0] at h
  have t := fun i => top_value (K := 4) (by decide) x hK b n i
  have h := (t _).symm.trans_lt (h.trans_eq (t _))
  rw [show (fun m => (x (ix3 b n m) : EReal)) = f from funext e, e, e] at h
  exact h

/-- The same of negated numbers: the numbers rise. -/
theorem rises (d : Fin 2048 → ℝ) {f : Fin 2048 → EReal} (e : ∀ m, f m = ((-d m : ℝ) : EReal)) (r : Fin 3)
    (h : f (order f (next r)) < f (order f (pos r))) :
    d (order (fun m => ((-d m : ℝ) : EReal)) (pos r)) < d (order (fun m => ((-d m : ℝ) : EReal)) (next r)) := by
  obtain rfl : f = fun m => ((-d m : ℝ) : EReal) := funext e
  simp only [EReal.coe_lt_coe_iff, neg_lt_neg_iff] at h
  exact h

/-- The negated distances, read at an element. -/
theorem negated (b : Fin 4) (n : Fin 8192) (m : Fin 2048) :
    (Host.negf (F := Ideal) (φ := .f32) (maximumf (subf
        (addf (broadcastInDim S4x8192x2048 ![0, 1, 2] bcast_S4x8192x1_S4x8192x2048_0_1_2 (broadcastInDim S4x8192x1 ![0, 1] bcast_S4x8192_S4x8192x1_0_1
            (Host.reduceAdd (mulf a0 a0) (constant S_ .f32 0x00000000#32) reducesTo_S4x64x8192_S4x8192_d1 h_S_)))
          (broadcastInDim S4x8192x2048 ![0, 1, 2] bcast_S4x1x2048_S4x8192x2048_0_1_2 (broadcastInDim S4x1x2048 ![0, 2] bcast_S4x2048_S4x1x2048_0_2
            (Host.reduceAdd (mulf a1 a1) (constant S_ .f32 0x00000000#32) reducesTo_S4x64x2048_S4x2048_d1 h_S_))))
        (mulf (broadcastInDim S4x8192x2048 ![] bcast_S_S4x8192x2048 (constant S_ .f32 0x40000000#32))
          (Host.dotGeneral dot_S4x64x8192_S4x64x2048_S4x8192x2048_1_1_2_2_0_0 none a0 a1)))
      (broadcastInDim S4x8192x2048 ![] bcast_S_S4x8192x2048 (constant S_ .f32 0x00000000#32))) (ix3 b n m) : EReal) =
    -max ((∑ c, (a0 (ix3 b c n) : EReal) * a0 (ix3 b c n)) + (∑ c, (a1 (ix3 b c m) : EReal) * a1 (ix3 b c m)) -
      ((2 : ℝ) : EReal) * ∑ c, (a0 (ix3 b c n) : EReal) * a1 (ix3 b c m)) 0 := by
  clean_types
  pointwise
  simp only [lit_two]

/-- The negated distances of finite points are finite. -/
theorem negated_finite (f0 : ∀ b c n, (a0 (ix3 b c n) : EReal) = (fine a0 b c n : EReal)) (f1 : ∀ b c m, (a1 (ix3 b c m) : EReal) = (coarse a1 b c m : EReal))
    (b : Fin 4) (n : Fin 8192) (m : Fin 2048) :
    -max ((∑ c, (a0 (ix3 b c n) : EReal) * a0 (ix3 b c n)) + (∑ c, (a1 (ix3 b c m) : EReal) * a1 (ix3 b c m)) -
      ((2 : ℝ) : EReal) * ∑ c, (a0 (ix3 b c n) : EReal) * a1 (ix3 b c m)) 0 = ((-dist (fine a0) (coarse a1) b n m : ℝ) : EReal) := by
  simp only [f0, f1, ← coe_sum, ← EReal.coe_mul, ← EReal.coe_add, ← EReal.coe_sub, max_coe, ← EReal.coe_zero, ← EReal.coe_neg]
  rfl

/-- No square is below zero. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A sum of squares is plus infinity when one of the numbers is infinite. -/
theorem squares_top (x : Fin 64 → EReal) (c : Fin 64) (h : x c * x c = ⊤) : (∑ c, x c * x c) = ⊤ :=
  top_le_iff.mp (h ▸ Finset.single_le_sum (fun i _ => square_nonneg (x i)) (Finset.mem_univ c))

/-- A difference from plus infinity, clipped and negated, is one of two values. -/
theorem two_values (z : EReal) : -max (⊤ - z) 0 = ⊥ ∨ -max (⊤ - z) 0 = 0 := by
  induction z using EReal.rec with
  | bot => left; simp
  | coe r => left; simp
  | top => right; simp

/-- Values that are each one of two do not fall twice. -/
theorem not_falls {u v w : EReal} (hu : u = ⊥ ∨ u = 0) (hv : v = ⊥ ∨ v = 0) (h1 : v < u) (h2 : w < v) : False := by
  rcases hv with rfl | rfl
  · exact not_lt_bot h2
  · rcases hu with rfl | rfl
    · exact not_lt_bot h1
    · exact lt_irrefl _ h1

/-- The precondition says that. A fine point with an infinite number would have no more than two different distances. -/
theorem said (h : fn (F := Ideal) a0 a1 a2 a3 a4 a5 a6 a7 a8 a9 a10 a11 a12 = fun _ => 1#1) :
    Said a0 a1 a7 a8 a9 a10 := by
  have h0 := congrFun h ix0
  unfold fn fn_part1 fn_part2 at h0
  dsimp only at h0
  simp only [andi, IntOp.andi_eq_one] at h0
  obtain ⟨⟨⟨⟨⟨hs, h1⟩, h7⟩, h8⟩, h9⟩, h10⟩ := h0
  have f1 := fun b c n => finite a1 _ _ _ h1 (ix3 b c n)
  haveI : Subsingleton S_.Idx := ⟨fun a b => funext fun d => d.elim0⟩
  have g := fun b n r => falls _ (negated a0 a1 b n) r _ _ _ (olt_one (Host.reduce_andi_all _ _ _ _ _ hs (ix3 b n r)))
  have f0 : ∀ b c n, (a0 (ix3 b c n) : EReal) = (fine a0 b c n : EReal) := fun b c n => by
    by_contra hc
    have ht : (a0 (ix3 b c n) : EReal) * a0 (ix3 b c n) = ⊤ := by
      have hx : ∀ x : EReal, x ≠ (x.toReal : EReal) → x * x = ⊤ := fun x => by
        induction x using EReal.rec with
        | bot => intro _; rfl
        | coe r => intro h; exact absurd rfl h
        | top => intro _; rfl
      exact hx _ hc
    have hq := squares_top (fun c => a0 (ix3 b c n)) c ht
    have hk : ∀ m, (∑ c, (a1 (ix3 b c m) : EReal) * a1 (ix3 b c m)) = ((∑ c, coarse a1 b c m * coarse a1 b c m : ℝ) : EReal) := fun m => by
      simp only [coe_sum, EReal.coe_mul]
      exact Finset.sum_congr rfl fun c _ => by rw [f1 b c m]; rfl
    have two := fun m => two_values (((2 : ℝ) : EReal) * ∑ c, (a0 (ix3 b c n) : EReal) * a1 (ix3 b c m))
    have g0 := g b n 0
    have g1 := g b n 1
    simp only [hq, hk, EReal.top_add_coe] at g0 g1
    exact not_falls (two _) (two _) g0 g1
  refine ⟨f0, f1, fun o c => finite a7 _ _ _ h7 _, fun o => finite a8 _ _ _ h8 _, fun o => finite a9 _ _ _ h9 _,
    fun o c => finite a10 _ _ _ h10 _, fun b n r => ?_⟩
  exact rises (fun m => dist (fine a0) (coarse a1) b n m) (negated_finite a0 a1 f0 f1 b n) r (g b n r)

/-! ## The three nearest, when the four least distances are apart -/

section Three
variable (d : Fin 2048 → ℝ)

/-- The positions by increasing distance. -/
def by_d (r : Fin 2048) : Fin 2048 := order (fun m => ((-d m : ℝ) : EReal)) r

variable {d} (h : ∀ r : Fin 3, d (by_d d (pos r)) < d (by_d d (next r)))
include h

/-- A position is one of the first three, or its distance exceeds theirs. -/
theorem cases (m : Fin 2048) :
    m = by_d d (pos 0) ∨ m = by_d d (pos 1) ∨ m = by_d d (pos 2) ∨ d (by_d d (pos 2)) < d m := by
  obtain ⟨j, hj⟩ := order_surjective (fun m => ((-d m : ℝ) : EReal)) m
  have hj : by_d d j = m := hj
  by_cases h0 : j.val = 0
  · exact Or.inl (by rw [← hj]; exact congrArg _ (Fin.ext h0))
  by_cases h1 : j.val = 1
  · exact Or.inr (Or.inl (by rw [← hj]; exact congrArg _ (Fin.ext h1)))
  by_cases h2 : j.val = 2
  · exact Or.inr (Or.inr (Or.inl (by rw [← hj]; exact congrArg _ (Fin.ext h2))))
  refine Or.inr (Or.inr (Or.inr ((h 2).trans_le ?_)))
  rw [← hj]
  by_cases h3 : j.val = 3
  · exact le_of_eq (congrArg (fun z => d (by_d d z)) (Fin.ext h3.symm))
  have := order_le (fun m => ((-d m : ℝ) : EReal)) (i := ⟨3, by decide⟩) (j := j) (by
    show 3 < j.val
    omega)
  simp only [EReal.coe_le_coe_iff, neg_le_neg_iff] at this
  exact this

/-- The nearest point is strictly nearer than the second, -/
theorem lt01 : d (by_d d (pos 0)) < d (by_d d (pos 1)) := h 0
/-- and the second than the third. -/
theorem lt12 : d (by_d d (pos 1)) < d (by_d d (pos 2)) := h 1

/-- The first is the least, -/
theorem least_first : Nearest.Least (fun m => (d m : EReal)) Finset.univ (by_d d (pos 0)) := by
  refine ⟨Finset.mem_univ _, EReal.coe_lt_top _, fun m _ hm => ?_⟩
  rw [EReal.coe_lt_coe_iff]
  have a := lt01 h
  have b := lt12 h
  rcases cases h m with e | e | e | e
  · exact absurd e hm
  · rw [e]; exact a
  · rw [e]; exact a.trans b
  · exact (a.trans b).trans e

/-- the second is the least of the rest, -/
theorem least_second : Nearest.Least (fun m => (d m : EReal)) (Finset.univ.erase (by_d d (pos 0))) (by_d d (pos 1)) := by
  have a := lt01 h
  have b := lt12 h
  refine ⟨Finset.mem_erase.mpr ⟨fun e => by rw [e] at a; exact lt_irrefl _ a, Finset.mem_univ _⟩, EReal.coe_lt_top _, fun m hs hm => ?_⟩
  rw [EReal.coe_lt_coe_iff]
  rcases cases h m with e | e | e | e
  · exact absurd e (Finset.mem_erase.mp hs).1
  · exact absurd e hm
  · rw [e]; exact b
  · exact b.trans e

/-- and so is the third of what is left. -/
theorem least_third : Nearest.Least (fun m => (d m : EReal)) ((Finset.univ.erase (by_d d (pos 0))).erase (by_d d (pos 1))) (by_d d (pos 2)) := by
  have a := lt01 h
  have b := lt12 h
  refine ⟨Finset.mem_erase.mpr ⟨fun e => by rw [e] at b; exact lt_irrefl _ b, Finset.mem_erase.mpr ⟨fun e => ?_, Finset.mem_univ _⟩⟩,
    EReal.coe_lt_top _, fun m hs hm => ?_⟩
  · rw [e] at b; exact lt_asymm a b
  rw [EReal.coe_lt_coe_iff]
  obtain ⟨n1, hs⟩ := Finset.mem_erase.mp hs
  rcases cases h m with e | e | e | e
  · exact absurd e (Finset.mem_erase.mp hs).1
  · exact absurd e n1
  · exact absurd e hm
  · exact e

/-- A sum over the positions within the third distance is the sum over the three. -/
theorem sum_within (f : Fin 2048 → ℝ) :
    (∑ m, if d m ≤ d (by_d d (pos 2)) then f m else 0) = ∑ r : Fin 3, f (by_d d (pos r)) := by
  have a := lt01 h
  have b := lt12 h
  have n01 : by_d d (pos 0) ≠ by_d d (pos 1) := fun e => by rw [e] at a; exact lt_irrefl _ a
  have n12 : by_d d (pos 1) ≠ by_d d (pos 2) := fun e => by rw [e] at b; exact lt_irrefl _ b
  have n02 : by_d d (pos 0) ≠ by_d d (pos 2) := fun e => by rw [e] at a; exact lt_asymm a b
  rw [← Finset.sum_filter, Fin.sum_univ_three]
  have hs : Finset.univ.filter (fun m => d m ≤ d (by_d d (pos 2))) = {by_d d (pos 0), by_d d (pos 1), by_d d (pos 2)} := by
    ext m
    simp only [Finset.mem_filter, Finset.mem_univ, true_and, Finset.mem_insert, Finset.mem_singleton]
    constructor
    · intro hm
      rcases cases h m with e | e | e | e
      · exact Or.inl e
      · exact Or.inr (Or.inl e)
      · exact Or.inr (Or.inr e)
      · exact absurd hm (not_le.mpr e)
    · rintro (e | e | e) <;> rw [e]
      · exact (a.trans b).le
      · exact b.le
  rw [hs, Finset.sum_insert (by simp [n01, n02]), Finset.sum_insert (by simp [n12]), Finset.sum_singleton, add_assoc]

end Three

end Cert.Apart

end
-- ==== Proof.Tile.lean ====
/-
  The second kernel call at one block, on finite numbers: its distances, the three least of a row, the weights, and the
  convolved block with its sums.
-/
module

public import proofs.«01_k».proof.Proof.Network
public import proofs.«01_k».proof.Proof.Apart
public import Idealize.ShloMosaic.Lib.Pointwise
public import Idealize.ShloMosaic.Lib.Tactic
public import Idealize.ShloMosaic.Lib.Tactic.CleanTypes

@[expose] public section

set_option maxRecDepth 16384

noncomputable section

namespace Cert.KernelIdeal.R1

open Cert.KernelIdeal Cert.KernelIdeal.Gen
open Cert.Reals Cert.Reads Cert.Spec Cert.Apart
open Idealize.ShloMosaic Idealize.ShloMosaic.TcCoe Idealize.ShloMosaic.Tactic

/-- The distance of two columns, -/
def gap (Q : Fin 64 → Fin 256 → ℝ) (P : Fin 64 → Fin 2048 → ℝ) (i : Fin 256) (m : Fin 2048) : ℝ :=
  max ((∑ c, Q c i * Q c i) + (∑ c, P c m * P c m) - 2 * ∑ c, Q c i * P c m) 0

/-- the distances by increasing position: the three least, -/
def mem (Q : Fin 64 → Fin 256 → ℝ) (P : Fin 64 → Fin 2048 → ℝ) (i : Fin 256) (r : Fin 3) : Fin 2048 := by_d (gap Q P i) (pos r)
/-- a neighbour's weight, -/
def load (Q : Fin 64 → Fin 256 → ℝ) (P : Fin 64 → Fin 2048 → ℝ) (i : Fin 256) (r : Fin 3) : ℝ := 1 / (gap Q P i (mem Q P i r) + tiny)
/-- and the convolution of a column and its interpolated features. -/
def blend (Q : Fin 64 → Fin 256 → ℝ) (P T : Fin 64 → Fin 2048 → ℝ) (R : Fin 64 → Fin 128 → ℝ) (o : Fin 64) (i : Fin 256) : ℝ :=
  (∑ c : Fin 64, Q c i * R o ⟨c.val, by omega⟩) +
    ∑ c : Fin 64, (∑ r : Fin 3, T c (mem Q P i r) * (load Q P i r / ∑ r, load Q P i r)) * R o ⟨64 + c.val, by omega⟩

/-- A distance is not negative, -/
theorem gap_nonneg (Q : Fin 64 → Fin 256 → ℝ) (P : Fin 64 → Fin 2048 → ℝ) (i : Fin 256) (m : Fin 2048) : 0 ≤ gap Q P i m := le_max_right _ _
/-- so the divisor of a weight is not zero, -/
theorem gap_den (Q : Fin 64 → Fin 256 → ℝ) (P : Fin 64 → Fin 2048 → ℝ) (i : Fin 256) (m : Fin 2048) : gap Q P i m + tiny ≠ 0 :=
  (add_pos_of_nonneg_of_pos (gap_nonneg Q P i m) tiny_pos).ne'
/-- nor is the sum of the weights. -/
theorem load_sum_ne (Q : Fin 64 → Fin 256 → ℝ) (P : Fin 64 → Fin 2048 → ℝ) (i : Fin 256) : (∑ r, load Q P i r) ≠ 0 :=
  (Finset.sum_pos (fun r _ => one_div_pos.mpr (add_pos_of_nonneg_of_pos (gap_nonneg Q P i _) tiny_pos)) Finset.univ_nonempty).ne'

section Rows
variable (q : Vec Ideal S1x64x256 .f32) (k : Vec Ideal S1x64x2048 .f32) (i : Fin 256)

/-- The least of a row. -/
theorem v1_read : (k1_pay78 (dist q k) (mid102 q k) (ix2 i 0) : EReal) = Finset.univ.fold min ⊤ (fun l => (bA (dist q k) 16 (ix2 i l) : EReal)) := by
  unfold k1_pay78
  rw [pass_least]
  clean_types
  pointwise
  exact congrArg (fun z => Finset.fold min z _ _) lit_inf

/-- The row with its least struck out, -/
theorem a2_read (l : Fin 128) : (k1_pay80 (dist q k) (mid98 q k) (mid101 q k) (mid102 q k) (ix2 i l) : EReal) =
    if (bA (dist q k) 16 (ix2 i l) : EReal) = k1_pay78 (dist q k) (mid102 q k) (ix2 i 0) then bB (dist q k) 16 (ix2 i l) else bA (dist q k) 16 (ix2 i l) := by
  unfold k1_pay80 k1_pay79
  rw [pass_least, pass_second]
  clean_types
  pointwise

/-- its least, -/
theorem v2_read : (k1_pay81 (dist q k) (mid98 q k) (mid101 q k) (mid102 q k) (ix2 i 0) : EReal) =
    Finset.univ.fold min ⊤ (fun l => (k1_pay80 (dist q k) (mid98 q k) (mid101 q k) (mid102 q k) (ix2 i l) : EReal)) := by
  unfold k1_pay81
  clean_types
  pointwise
  exact congrArg (fun z => Finset.fold min z _ _) lit_inf

/-- and the least once that is struck out too. -/
theorem v3_read : (k1_pay82 (dist q k) (mid98 q k) (mid99 q k) (mid101 q k) (mid102 q k) (mid103 q k) (ix2 i 0) : EReal) =
    Finset.univ.fold min ⊤ (fun l =>
      if (k1_pay80 (dist q k) (mid98 q k) (mid101 q k) (mid102 q k) (ix2 i l) : EReal) = k1_pay81 (dist q k) (mid98 q k) (mid101 q k) (mid102 q k) (ix2 i 0) then
        (if (bA (dist q k) 16 (ix2 i l) : EReal) = k1_pay78 (dist q k) (mid102 q k) (ix2 i 0) then bC (dist q k) 16 (ix2 i l) else bB (dist q k) 16 (ix2 i l))
      else k1_pay80 (dist q k) (mid98 q k) (mid101 q k) (mid102 q k) (ix2 i l)) := by
  rw [pass_third]
  unfold third k1_pay79
  rw [pass_least]
  clean_types
  pointwise
  exact congrArg (fun z => Finset.fold min z _ _) lit_inf
/-- The block's sums are added to what the sums' buffer held. -/
theorem payU_read (t : Vec Ideal S1x64x2048 .f32) (w : Vec Ideal S64x128 .f32) (s : Vec Ideal S1x64x2 .f32) (o : Fin 64) (z : Fin 2) :
    (payU q k t w s (ix3 0 o z) : EReal) = (s (ix3 0 o z) : EReal) + payT q k t w (ix3 0 o z) := by
  unfold payU payT k1_pay5 k1_pay4
  clean_types
  pointwise
end Rows

section Block
variable {q : Vec Ideal S1x64x256 .f32} {k t : Vec Ideal S1x64x2048 .f32} {w : Vec Ideal S64x128 .f32}
  {Q : Fin 64 → Fin 256 → ℝ} {P T : Fin 64 → Fin 2048 → ℝ} {R : Fin 64 → Fin 128 → ℝ}
  (hq : ∀ c i, (q (ix3 0 c i) : EReal) = (Q c i : EReal)) (hk : ∀ c m, (k (ix3 0 c m) : EReal) = (P c m : EReal))
include hq hk

/-- The block's distances. -/
theorem dist_read (i : Fin 256) (m : Fin 2048) : (dist q k (ix2 i m) : EReal) = (gap Q P i m : EReal) := by
  unfold dist k1_pay7 k1_pay6
  clean_types
  pointwise
  simp only [hq, hk, ← coe_sum, ← EReal.coe_mul, lit_two, ← EReal.coe_add, ← EReal.coe_sub, max_coe, ← EReal.coe_zero]
  rfl

variable (hs : ∀ (i : Fin 256) (r : Fin 3), gap Q P i (by_d (gap Q P i) (pos r)) < gap Q P i (by_d (gap Q P i) (next r)))
include hs

/-- The three least distances of a row. -/
theorem mins (i : Fin 256) : (k1_pay78 (dist q k) (mid102 q k) (ix2 i 0) : EReal) = (gap Q P i (mem Q P i 0) : EReal) ∧
    (k1_pay81 (dist q k) (mid98 q k) (mid101 q k) (mid102 q k) (ix2 i 0) : EReal) = (gap Q P i (mem Q P i 1) : EReal) ∧
    (k1_pay82 (dist q k) (mid98 q k) (mid99 q k) (mid101 q k) (mid102 q k) (mid103 q k) (ix2 i 0) : EReal) = (gap Q P i (mem Q P i 2) : EReal) := by
  have hd : (fun m => (dist q k (ix2 i m) : EReal)) = fun m => (gap Q P i m : EReal) := funext (dist_read hq hk i)
  have hn := Nearest.net_holds (fun m => (gap Q P i m : EReal)) 16 le_rfl
  rw [Nearest.upTo_all] at hn
  have hA : (fun l => (bA (dist q k) 16 (ix2 i l) : EReal)) = Nearest.netA (fun m => (gap Q P i m : EReal)) 16 := by rw [← hd]; rfl
  have hB : (fun l => (bB (dist q k) 16 (ix2 i l) : EReal)) = Nearest.netB (fun m => (gap Q P i m : EReal)) 16 := by rw [← hd]; rfl
  have hC : (fun l => (bC (dist q k) 16 (ix2 i l) : EReal)) = Nearest.netC (fun m => (gap Q P i m : EReal)) 16 := by rw [← hd]; rfl
  rw [← hA, ← hB, ← hC] at hn
  rw [v3_read]
  exact Nearest.three (least_first (hs i)) (least_second (hs i)) (least_third (hs i)) hn.1 hn.2.1 hn.2.2 _ _ _
    (fun l => if (bA (dist q k) 16 (ix2 i l) : EReal) = k1_pay78 (dist q k) (mid102 q k) (ix2 i 0) then bC (dist q k) 16 (ix2 i l) else bB (dist q k) 16 (ix2 i l)) _
    (v1_read q k i) (fun l => a2_read q k i l) (fun _ => rfl) (v2_read q k i) (fun _ => rfl)

/-- The sum of the three weights. -/
theorem wsum_read (i : Fin 256) : (wsum q k (ix2 i 0) : EReal) = ((∑ r, load Q P i r : ℝ) : EReal) := by
  obtain ⟨h1, h2, h3⟩ := mins hq hk hs i
  unfold wsum k1_pay83
  clean_types
  pointwise
  rw [h1, h2, h3]
  simp only [lit_tiny, ← EReal.coe_add, ← EReal.coe_one, div_coe _ (gap_den Q P i _)]
  rw [Fin.sum_univ_three]
  rfl

variable (ht : ∀ c m, (t (ix3 0 c m) : EReal) = (T c m : EReal)) (hw : ∀ o c, (w (ix2 o c) : EReal) = (R o c : EReal))
include ht hw

/-- The convolved block. -/
theorem conv_read (o : Fin 64) (i : Fin 256) :
    (k1_pay1 (k1_pay6 q) (wsum q k) (near q k) (k1_pay85 (dist q k)) (k1_pay86 (F := Ideal)) t w (ix2 o i) : EReal) = (blend Q P T R o i : EReal) := by
  obtain ⟨h1, h2, h3⟩ := mins hq hk hs i
  unfold k1_pay1 near k1_pay84 k1_pay85 k1_pay86 k1_pay6
  clean_types
  pointwise
  have inner : ∀ c : Fin 64, (∑ m : Fin 2048, (if (dist q k (ix2 i m) : EReal) ≤
        k1_pay82 (dist q k) (mid98 q k) (mid99 q k) (mid101 q k) (mid102 q k) (mid103 q k) (ix2 i 0) then
        Ideal.div 1 ((dist q k (ix2 i m) : EReal) + Ideal.ofBits .f32 0x322BCC77#32) else 0) * (t (ix3 0 c m) : EReal)) =
      ((∑ r : Fin 3, load Q P i r * T c (mem Q P i r) : ℝ) : EReal) := by
    intro c
    rw [h3, show (∑ r : Fin 3, load Q P i r * T c (mem Q P i r)) =
      ∑ r : Fin 3, (fun m => 1 / (gap Q P i m + tiny) * T c m) (by_d (gap Q P i) (pos r)) from rfl, ← sum_within (hs i) (fun m => 1 / (gap Q P i m + tiny) * T c m), coe_sum]
    refine Finset.sum_congr rfl fun m _ => ?_
    rw [dist_read hq hk, ht, lit_tiny]
    by_cases hm : gap Q P i m ≤ gap Q P i (mem Q P i 2)
    · rw [if_pos (EReal.coe_le_coe_iff.mpr hm), if_pos (show gap Q P i m ≤ gap Q P i (by_d (gap Q P i) (pos 2)) from hm), ← EReal.coe_add, ← EReal.coe_one, div_coe _ (gap_den Q P i _), EReal.coe_mul]
    · rw [if_neg (fun h => hm (EReal.coe_le_coe_iff.mp h)), if_neg (show ¬ gap Q P i m ≤ gap Q P i (by_d (gap Q P i) (pos 2)) from hm), zero_mul, EReal.coe_zero]
  simp only [inner]
  simp only [wsum_read hq hk hs, hq, hw, div_coe _ (load_sum_ne Q P i), ← EReal.coe_mul, ← coe_sum, ← EReal.coe_add]
  refine congrArg _ ?_
  unfold blend
  refine congrArg₂ (· + ·) (Finset.sum_congr rfl fun c _ => mul_comm _ _) (Finset.sum_congr rfl fun c _ => ?_)
  rw [mul_comm, Finset.sum_div]
  refine congrArg (· * _) (Finset.sum_congr rfl fun r _ => ?_)
  rw [mul_comm (load Q P i r), mul_div_assoc]

/-- The same, as it is stored, -/
theorem payY_read (o : Fin 64) (i : Fin 256) : (payY q k t w (ix3 0 o i) : EReal) = (blend Q P T R o i : EReal) := by
  have e := fun o i => conv_read hq hk hs ht hw o i
  unfold payY k1_pay2
  clean_types
  pointwise
  exact e o i

/-- with its sums along the block, -/
theorem payT_read (o : Fin 64) : (payT q k t w (ix3 0 o 0) : EReal) = ((∑ i, blend Q P T R o i : ℝ) : EReal) ∧
    (payT q k t w (ix3 0 o 1) : EReal) = ((∑ i, blend Q P T R o i * blend Q P T R o i : ℝ) : EReal) := by
  have e := fun o i => conv_read hq hk hs ht hw o i
  unfold payT k1_pay4 k1_pay3
  clean_types
  constructor
  · pointwise
    simp only [e, coe_sum]
  · pointwise
    simp only [e, coe_sum, EReal.coe_mul]

end Block

end Cert.KernelIdeal.R1

end
-- ==== Proof.Finish.lean ====
/-
  The third kernel call on finite numbers: its output block holds the result, given the convolved values and their sums.
-/
module

public import proofs.«01_k».proof.Proof.Region2
public import proofs.«01_k».proof.Proof.Spec
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.KernelIdeal.R2

open Cert.KernelIdeal Cert.KernelIdeal.Gen
open Cert.Reals Cert.Spec
open Idealize.ShloMosaic Idealize.ShloMosaic.TcCoe Idealize.ShloMosaic.Tactic

/-- The output block holds the activated normalisation of the convolved values. -/
theorem out_read {x0 : Vec Ideal S1x64x8192 .f32} {x1 : Vec Ideal S4x64x2 .f32} {x2 x3 : Vec Ideal S64x1 .f32}
    {Y : Fin 4 → Fin 64 → Fin 8192 → ℝ} {g β : Fin 64 → EReal} (b : Fin 4)
    (h0 : ∀ o n, (x0 (ix3 0 o n) : EReal) = (Y b o n : EReal))
    (hs : ∀ b o, (x1 (ix3 b o 0) : EReal) = ((∑ n, Y b o n : ℝ) : EReal))
    (hq : ∀ b o, (x1 (ix3 b o 1) : EReal) = ((∑ n, Y b o n * Y b o n : ℝ) : EReal))
    (h2 : ∀ o, (x2 (ix2 o 0) : EReal) = g o) (h3 : ∀ o, (x3 (ix2 o 0) : EReal) = β o)
    (o : Fin 64) (n : Fin 8192) :
    (out x0 x1 x2 x3 (ix3 0 o n) : EReal) = act (g o * (norm (fun b i => Y b o i) 32768 1 0 b n : EReal) + β o) := by
  have k := norm_kernel_any (fun b i => Y b o i) 32768 (by norm_num) (by norm_num) (g o) (β o) b n
  have hp := spread_pos (fun b i => Y b o i) 32768 (by norm_num) (by norm_num)
  simp only [mu] at k hp
  have e : ((Y b o n : EReal) - (((∑ b, ∑ i, Y b o i) / 32768 : ℝ) : EReal)) *
      (g o * Ideal.rsqrt ((((∑ b, ∑ i, Y b o i * Y b o i) / 32768 : ℝ) : EReal) -
        (((∑ b, ∑ i, Y b o i) / 32768 : ℝ) : EReal) * (((∑ b, ∑ i, Y b o i) / 32768 : ℝ) : EReal) + (eps : EReal))) + β o =
      g o * (norm (fun b i => Y b o i) 32768 1 0 b n : EReal) + β o := by
    rw [← k, ← EReal.coe_mul, ← EReal.coe_sub ((∑ b, ∑ i, Y b o i * Y b o i) / 32768), ← EReal.coe_add, rsqrt_coe hp]
  unfold out
  rw [View.canon_cons_unit_zero (by decide)]
  unfold k2_pay1
  clean_types
  pointwise
  simp only [h0, hs, hq, h2, h3, lit_32768, lit_eps, lit_slope, ← coe_sum, div_coe _ (show (32768 : ℝ) ≠ 0 by norm_num)]
  simp only [e]
  rfl

end Cert.KernelIdeal.R2

end
-- ==== Proof.Arrays.lean ====
/-
  The arrays the three kernel calls leave, on finite numbers: each call's blocks put together.
-/
module

public import proofs.«01_k».proof.Proof.Run
public import proofs.«01_k».proof.Proof.Features
public import proofs.«01_k».proof.Proof.Tile
public import proofs.«01_k».proof.Proof.Finish
public import Idealize.ShloMosaic.Lib.Pipeline.ValueKit

@[expose] public section

set_option maxRecDepth 16384

noncomputable section

namespace Cert.KernelIdeal.R0

open Cert.KernelIdeal Cert.KernelIdeal.Gen
open Cert.Reals Cert.Reads Cert.Spec
open Idealize.ShloMosaic Idealize.ShloMosaic.TcCoe Idealize.ShloMosaic.Tactic

/-- Every window's block of the first call is the whole of its array. -/
theorem idx : ∀ t : Fin cfg0.N, win0_0.index t = ![0, 0, 0] ∧ win0_1.index t = ![0, 0] ∧ win0_2.index t = ![0, 0] ∧ win0_3.index t = ![0, 0] ∧
    win0_4.index t = ![0, 0, 0] := (by decide +kernel : ∀ t : Fin grid0.N, _)

variable {V : (c : Dev nD) → (b : Ref sig .tc) → Buf (Elt Ideal) ((c : Thread nD τ).loc b)} {c : Dev nD}
  {p : Fin 4 → Fin 64 → Fin 2048 → ℝ} {W : Fin 64 → Fin 64 → ℝ} {g β : Fin 64 → ℝ}

/-- The first call leaves the coarse features. -/
theorem arr_read (h0 : ∀ b k m, (V c main_arg1 (ix3 b k m) : EReal) = (p b k m : EReal)) (h1 : ∀ o k, (V c main_arg7 (ix2 o k) : EReal) = (W o k : EReal))
    (h2 : ∀ o, (V c main_v0 (ix2 o 0) : EReal) = (g o : EReal)) (h3 : ∀ o, (V c main_v1 (ix2 o 0) : EReal) = (β o : EReal)) :
    (dat V c).arrAt 4 cfg0.N = block p W g β := by
  refine (dat V c).arrAt_eq_of_covers 4 (block p W g β) (by decide +kernel) fun t hf y => ?_
  obtain ⟨e0, e1, e2, e3, e4⟩ := idx t
  blk_simp
  rw [after_4, out_read (p := p) (W := W) (g := g) (β := β)]
  · blk_ext [e4]
  · intro b k m
    rw [← h0 b k m]
    blk_ext [iblk, e0]
  · intro o k
    rw [← h1 o k]
    blk_ext [iblk, e1]
  · intro o
    rw [← h2 o]
    blk_ext [iblk, e2]
  · intro o
    rw [← h3 o]
    blk_ext [iblk, e3]

end Cert.KernelIdeal.R0

namespace Cert.KernelIdeal.R1

open Cert.KernelIdeal Cert.KernelIdeal.Gen
open Cert.Reals Cert.Reads Cert.Spec Cert.Apart
open Idealize.ShloMosaic Idealize.ShloMosaic.TcCoe Idealize.ShloMosaic.Tactic

/-- Which block of its array each window of the second call stands at: the batch is the point's quotient by 32, the
    block of fine points its remainder. -/
theorem idx : ∀ t : Fin cfg1.N, win1_0.index t = ![t.val / 32, 0, t.val % 32] ∧ win1_1.index t = ![t.val / 32, 0, 0] ∧
    win1_2.index t = ![t.val / 32, 0, 0] ∧ win1_3.index t = ![0, 0] ∧ win1_4.index t = ![t.val / 32, 0, t.val % 32] ∧
    win1_5.index t = ![t.val / 32, 0, 0] := (by decide +kernel : ∀ t : Fin grid1.N, _)

/-- The batch of a point, -/
def batch (t : Fin cfg1.N) : Fin 4 := ⟨t.val / 32, by have h : t.val < 128 := t.isLt; omega⟩
/-- and a fine point of its block. -/
def fineAt (t : Fin cfg1.N) (i : Fin 256) : Fin 8192 := ⟨t.val % 32 * 256 + i.val, by omega⟩

/-- The array of the mixed features, -/
def mixed (Y : Fin 4 → Fin 64 → Fin 8192 → ℝ) : Vec Ideal S4x64x8192 .f32 := fun y => ((Y (y 0) (y 1) (y 2) : ℝ) : EReal)
/-- and of their sums and sums of squares, per batch and channel. -/
def totals (Y : Fin 4 → Fin 64 → Fin 8192 → ℝ) : Vec Ideal S4x64x2 .f32 :=
  fun y => if (y 2).val = 0 then ((∑ n, Y (y 0) (y 1) n : ℝ) : EReal) else ((∑ n, Y (y 0) (y 1) n * Y (y 0) (y 1) n : ℝ) : EReal)

/-- A load of a whole block is the block. -/
theorem ldQ (x : Vec Ideal S1x64x256 .f32) : View.ld x rQ = x := View.ld_unit_zero (by decide) _ x
/-- So is a load of the coarse points or features, -/
theorem ldK (x : Vec Ideal S1x64x2048 .f32) : View.ld x rK = x := View.ld_unit_zero (by decide) _ x
/-- of the second convolution's weights, -/
theorem ldR (x : Vec Ideal S64x128 .f32) : View.ld x rR = x := View.ld_unit_zero (by decide) _ x
/-- and of the sums' buffer. -/
theorem ldT (x : Vec Ideal S1x64x2 .f32) : View.ld x rT = x := View.ld_unit_zero (by decide) _ x

/-- What the body leaves, without the loads and stores of whole blocks. -/
theorem outY_eq (x0 : Vec Ideal S1x64x256 .f32) (x1 x2 : Vec Ideal S1x64x2048 .f32) (x3 : Vec Ideal S64x128 .f32) :
    outY x0 x1 x2 x3 = payY x0 x1 x2 x3 := by
  unfold outY
  rw [View.canon_cons_unit_zero (by decide), ldQ, ldK, ldK, ldR]
/-- The same of the sums at a batch's first point, -/
theorem outT_eq (x0 : Vec Ideal S1x64x256 .f32) (x1 x2 : Vec Ideal S1x64x2048 .f32) (x3 : Vec Ideal S64x128 .f32) :
    outT x0 x1 x2 x3 = payT x0 x1 x2 x3 := by
  unfold outT
  rw [View.canon_cons_unit_zero (by decide), ldQ, ldK, ldK, ldR]
/-- and at the others. -/
theorem outU_eq (x0 : Vec Ideal S1x64x256 .f32) (x1 x2 : Vec Ideal S1x64x2048 .f32) (x3 : Vec Ideal S64x128 .f32) (s : Vec Ideal S1x64x2 .f32) :
    outU x0 x1 x2 x3 s = payU x0 x1 x2 x3 s := by
  unfold outU
  rw [View.canon_cons_unit_zero (by decide), ldQ, ldK, ldK, ldR, ldT]

section Arrays
variable {V : (c : Dev nD) → (b : Ref sig .tc) → Buf (Elt Ideal) ((c : Thread nD τ).loc b)} {c : Dev nD}
  {q : Fin 4 → Fin 64 → Fin 8192 → ℝ} {p : Fin 4 → Fin 64 → Fin 2048 → ℝ} {W : Fin 64 → Fin 64 → ℝ} {g β : Fin 64 → ℝ} {R : Fin 64 → Fin 128 → ℝ}
  (h0 : ∀ b k n, (V c main_arg0 (ix3 b k n) : EReal) = (q b k n : EReal)) (h1 : ∀ b k m, (V c main_arg1 (ix3 b k m) : EReal) = (p b k m : EReal))
  (h2 : ∀ b k m, (V c main_v4 (ix3 b k m) : EReal) = (feat p W g β b k m : EReal)) (h3 : ∀ o k, (V c main_arg10 (ix2 o k) : EReal) = (R o k : EReal))

include h0 in
/-- The first block the body is given holds the point's fine points. -/
theorem blk0 (t : Fin cfg1.N) (k : Fin 64) (i : Fin 256) : (iblk V c 0 t (ix3 0 k i) : EReal) = (q (batch t) k (fineAt t i) : EReal) := by
  rw [← h0]
  obtain ⟨e0, e1, e2, e3, e4, e5⟩ := idx t
  blk_ext [iblk, e0, batch, fineAt]

include h1 in
/-- The second block holds the batch's coarse points, -/
theorem blk1 (t : Fin cfg1.N) (k : Fin 64) (m : Fin 2048) : (iblk V c 1 t (ix3 0 k m) : EReal) = (p (batch t) k m : EReal) := by
  rw [← h1]
  obtain ⟨e0, e1, e2, e3, e4, e5⟩ := idx t
  blk_ext [iblk, e1, batch]

include h2 in
/-- the third its coarse features, -/
theorem blk2 (t : Fin cfg1.N) (k : Fin 64) (m : Fin 2048) : (iblk V c 2 t (ix3 0 k m) : EReal) = (feat p W g β (batch t) k m : EReal) := by
  rw [← h2]
  obtain ⟨e0, e1, e2, e3, e4, e5⟩ := idx t
  blk_ext [iblk, e2, batch]

include h3 in
/-- and the fourth the second convolution's weights. -/
theorem blk3 (t : Fin cfg1.N) (o : Fin 64) (k : Fin 128) : (iblk V c 3 t (ix2 o k) : EReal) = (R o k : EReal) := by
  rw [← h3]
  obtain ⟨e0, e1, e2, e3, e4, e5⟩ := idx t
  blk_ext [iblk, e3]

variable (hs : ∀ b n (r : Fin 3), Spec.dist q p b n (Spec.near q p b n (pos r)) < Spec.dist q p b n (Spec.near q p b n (next r)))

include h0 h1 h2 h3 hs

/-- The block written at a point holds the mixed features of its fine points, -/
theorem outY_read (t : Fin cfg1.N) (o : Fin 64) (i : Fin 256) :
    (outY (iblk V c 0 t) (iblk V c 1 t) (iblk V c 2 t) (iblk V c 3 t) (ix3 0 o i) : EReal) = (mix q p W g β R (batch t) o (fineAt t i) : EReal) := by
  rw [outY_eq]
  exact payY_read (blk0 h0 t) (blk1 h1 t) (fun i r => hs (batch t) (fineAt t i) r) (blk2 h2 t) (blk3 h3 t) o i

/-- the sums over them, -/
theorem outT_read (t : Fin cfg1.N) (y : S1x64x2.Idx) :
    (outT (iblk V c 0 t) (iblk V c 1 t) (iblk V c 2 t) (iblk V c 3 t) y : EReal) =
      if (y 2).val = 0 then ((∑ i, mix q p W g β R (batch t) (y 1) (fineAt t i) : ℝ) : EReal)
      else ((∑ i, mix q p W g β R (batch t) (y 1) (fineAt t i) * mix q p W g β R (batch t) (y 1) (fineAt t i) : ℝ) : EReal) := by
  have e := payT_read (blk0 h0 t) (blk1 h1 t) (fun i r => hs (batch t) (fineAt t i) r) (blk2 h2 t) (blk3 h3 t) (y 1)
  rw [outT_eq]
  by_cases h : (y 2).val = 0
  · rw [if_pos h, show y = ix3 0 (y 1) 0 by blk_ext [h]]
    exact e.1
  · rw [if_neg h, show y = ix3 0 (y 1) 1 by blk_ext [h]]
    exact e.2

/-- and the array of mixed features is written block by block. -/
theorem arrY_read : (dat V c).arrAt 4 cfg1.N = mixed (mix q p W g β R) := by
  refine (dat V c).arrAt_eq_of_covers 4 (mixed (mix q p W g β R)) (by decide +kernel) fun t hf y => ?_
  obtain ⟨e0, e1, e2, e3, e4, e5⟩ := idx t
  blk_simp
  rw [after_4, show y = ix3 0 (y 1) (y 2) by blk_ext]
  refine (outY_read h0 h1 h2 h3 hs t _ _).trans ?_
  refine congrArg (mixed (mix q p W g β R)) (a₁ := ix3 (batch t) (y 1) (fineAt t (y 2))) ?_
  blk_ext [e4, batch, fineAt]

/-- The sums' buffer after a batch's last point holds the batch's sums. -/
theorem sums_read (t : Fin cfg1.N) (ht : t.val % 32 = 31) (y : S1x64x2.Idx) :
    (sumsAt V c t.val t.isLt y : EReal) = totals (mix q p W g β R) (ix3 (batch t) (y 1) (y 2)) := by
  have k := Pipeline.eq_sum_fin_of_reset_step_apply_of_flush (M := EReal) (fun n hn => sumsAt V c n hn) 32 (fun _ => 0)
    (fun t => outT (iblk V c 0 t) (iblk V c 1 t) (iblk V c 2 t) (iblk V c 3 t))
    (fun t h y => by rw [sumsAt_A V c t h, zero_add])
    (fun t h y => by
      rw [sumsAt_B V c t h, outU_eq, outT_eq, show y = ix3 0 (y 1) (y 2) by blk_ext]
      exact payU_read _ _ _ _ _ _ _) t ht y
  rw [k, zero_add]
  simp only [outT_read h0 h1 h2 h3 hs]
  have hb : ∀ s : Fin 32, batch ⟨32 * (t.val / 32) + s.val, Pipeline.run_point_lt_of_flush t ht s⟩ = batch t := fun s => Fin.ext (by
    show (32 * (t.val / 32) + s.val) / 32 = t.val / 32
    omega)
  have hl : ∀ (s : Fin 32) (i : Fin 256), fineAt ⟨32 * (t.val / 32) + s.val, Pipeline.run_point_lt_of_flush t ht s⟩ i = ⟨s.val * 256 + i.val, by omega⟩ :=
    fun s i => Fin.ext (by
      show (32 * (t.val / 32) + s.val) % 32 * 256 + i.val = s.val * 256 + i.val
      omega)
  simp only [hb, hl]
  have split : ∀ f : Fin 8192 → ℝ, (∑ s : Fin 32, ((∑ i : Fin 256, f ⟨s.val * 256 + i.val, by omega⟩ : ℝ) : EReal)) = ((∑ n, f n : ℝ) : EReal) := fun f => by
    rw [← coe_sum]
    exact congrArg _ (Fin.sum_mul_add_congr fun s i hl => rfl)
  by_cases h : (y 2).val = 0
  · simp only [if_pos h]
    exact (split (fun n => mix q p W g β R (batch t) (y 1) n)).trans (if_pos h).symm
  · simp only [if_neg h]
    exact (split (fun n => mix q p W g β R (batch t) (y 1) n * mix q p W g β R (batch t) (y 1) n)).trans (if_neg h).symm

/-- The array of the sums. -/
theorem arrT_read : (dat V c).arrAt 5 cfg1.N = totals (mix q p W g β R) := by
  refine (dat V c).arrAt_eq_of_covers 5 (totals (mix q p W g β R)) (by decide +kernel) fun t hf y => ?_
  obtain ⟨e0, e1, e2, e3, e4, e5⟩ := idx t
  blk_simp
  rw [after_5]
  refine (sums_read h0 h1 h2 h3 hs t ((flush1_5 t).mp hf) _).trans ?_
  refine congrArg (totals (mix q p W g β R)) ?_
  blk_ext [e5, batch]

end Arrays

end Cert.KernelIdeal.R1

namespace Cert.KernelIdeal.R2

open Cert.KernelIdeal Cert.KernelIdeal.Gen
open Cert.Reals Cert.Reads Cert.Spec
open Idealize.ShloMosaic Idealize.ShloMosaic.TcCoe Idealize.ShloMosaic.Tactic

/-- Which block of its array each window of the third call stands at. -/
theorem idx : ∀ t : Fin cfg2.N, win2_0.index t = ![t.val, 0, 0] ∧ win2_1.index t = ![0, 0, 0] ∧ win2_2.index t = ![0, 0] ∧ win2_3.index t = ![0, 0] ∧
    win2_4.index t = ![t.val, 0, 0] := (by decide +kernel : ∀ t : Fin grid2.N, _)

/-- The batch of a point. -/
def batch (t : Fin cfg2.N) : Fin 4 := ⟨t.val, t.isLt⟩

variable {V : (c : Dev nD) → (b : Ref sig .tc) → Buf (Elt Ideal) ((c : Thread nD τ).loc b)} {c : Dev nD}
  {Y : Fin 4 → Fin 64 → Fin 8192 → ℝ} {g β : Fin 64 → EReal}

/-- The result's array. -/
def finished (Y : Fin 4 → Fin 64 → Fin 8192 → ℝ) (g β : Fin 64 → EReal) : Vec Ideal S4x64x8192 .f32 :=
  fun y => act (g (y 1) * (norm (fun b i => Y b (y 1) i) 32768 1 0 (y 0) (y 2) : EReal) + β (y 1))

/-- The third call leaves the mixed features normalised and activated. -/
theorem arr_read (h0 : V c main_v5_0 = R1.mixed Y) (h1 : V c main_v5_1 = R1.totals Y)
    (h2 : ∀ o, (V c main_v2 (ix2 o 0) : EReal) = g o) (h3 : ∀ o, (V c main_v3 (ix2 o 0) : EReal) = β o) :
    (dat V c).arrAt 4 cfg2.N = finished Y g β := by
  refine (dat V c).arrAt_eq_of_covers 4 (finished Y g β) (by decide +kernel) fun t hf y => ?_
  obtain ⟨e0, e1, e2, e3, e4⟩ := idx t
  have k0 : ∀ o n, (iblk V c 0 t (ix3 0 o n) : EReal) = (Y (batch t) o n : EReal) := fun o n => by
    refine Eq.trans (b := (V c main_v5_0 (ix3 (batch t) o n) : EReal)) ?_ (by rw [h0]; rfl)
    blk_ext [iblk, e0, batch]
  have k1 : ∀ b o z, (iblk V c 1 t (ix3 b o z) : EReal) = R1.totals Y (ix3 b o z) := fun b o z => by
    rw [← h1]
    blk_ext [iblk, e1]
  have k2 : ∀ o, (iblk V c 2 t (ix2 o 0) : EReal) = g o := fun o => by
    rw [← h2 o]
    blk_ext [iblk, e2]
  have k3 : ∀ o, (iblk V c 3 t (ix2 o 0) : EReal) = β o := fun o => by
    rw [← h3 o]
    blk_ext [iblk, e3]
  blk_simp
  rw [after_4, show y = ix3 0 (y 1) (y 2) by blk_ext]
  refine (out_read (batch t) k0 (fun b o => k1 b o 0) (fun b o => k1 b o 1) k2 k3 _ _).trans ?_
  refine congrArg (finished Y g β) (a₁ := ix3 (batch t) (y 1) (y 2)) ?_
  blk_ext [e4, batch]

end Cert.KernelIdeal.R2

end
-- ==== Proof.RefRead.lean ====
module

public import proofs.«01_k».proof.Proof.Gen.ReferenceIdeal.Run
public import proofs.«01_k».proof.Proof.Spec
public import Idealize.ShloMosaic.Lib.Pointwise
public import Idealize.ShloMosaic.Lib.Tactic
public import Idealize.ShloMosaic.Lib.Tactic.CleanTypes
public import Idealize.ShloMosaic.Lib.Tactic.WordOmega

@[expose] public section

set_option maxRecDepth 16384

/-! The reference's result, read at an index: on finite inputs it is the number `Spec.res`. -/

noncomputable section

namespace Cert.ReferenceIdeal.Read

open Cert.ReferenceIdeal Cert.ReferenceIdeal.Gen Cert.ReferenceIdeal.Value
open Cert.Reals Cert.Reads Cert.Spec
open Idealize.ShloMosaic Idealize.ShloMosaic.TcCoe Idealize.ShloMosaic.Tactic

/-- A zero word is the number zero. -/
theorem sitofp_zero : (FloatOps.sitofp (F := Ideal) .f32 (0#32) : EReal) = 0 := by
  simp [FloatOps.sitofp]

/-- A position is no negative index, so it stays as it is, -/
theorem wrap (k : Fin 2048) :
    Scalar.select (IntOp.cmpi .slt (BitVec.ofNat 32 k.val) 0#32) (IntOp.addi (BitVec.ofNat 32 k.val) 2048#32)
      (BitVec.ofNat 32 k.val) = BitVec.ofNat 32 k.val := by
  have h : IntOp.cmpi .slt (BitVec.ofNat 32 k.val) 0#32 = 0#1 := by
    have := k.isLt
    word_cmp
  rw [h]; rfl

/-- and it is in range. -/
theorem in_range (k : Fin 2048) :
    IntOp.andi (IntOp.cmpi .sge (BitVec.ofNat 32 k.val) 0#32) (IntOp.cmpi .sle (BitVec.ofNat 32 k.val) 2047#32) = 1#1 := by
  have := k.isLt
  word_cmp

/-- The lookup of a feature row by a position. -/
theorem gather_read {α : Type} (x : S4x64x2048.Idx → α) (idx : IVec S4x8192x3x1 32) (b : Fin 4) (c : Fin 64) (n : Fin 8192) (r : Fin 3)
    (k : Fin 2048) (h : idx (ix4 b n r 0) = BitVec.ofNat 32 k.val) :
    Host.gather gather_S4x64x2048_S4x8192x3x1_S4x64x8192x3_1_2_0_0_2_3_1641 x idx (ix4 b c n r) = x (ix3 b c k) := by
  unfold Host.gather
  refine congrArg x (funext fun a => Fin.ext ?_)
  generalize hd : gather_S4x64x2048_S4x8192x3x1_S4x64x8192x3_1_2_0_0_2_3_1641 = d
  have hob : d.operandBatchingDims = [0] := by rw [← hd]; rfl
  have hco : d.collapsedSliceDims = [2] := by rw [← hd]; rfl
  have hsm : d.startIndexMap = [2] := by rw [← hd]; rfl
  show d.start (ix4 b c n r) idx a + d.batchCoord (ix4 b c n r) a + d.offCoord (ix4 b c n r) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [d.start_batching _ _ _ (by rw [hob]; decide), d.offCoord_eq_zero _ _ (fun h => ((d.mem_sKept _).mp h).2 (by rw [hob]; decide))]
    unfold GatherDims.batchCoord
    rw [dif_pos (by rw [hob]; decide)]
    subst hd
    exact (Nat.zero_add _).trans rfl
  · rw [d.batchCoord_eq_zero _ _ (by rw [hob]; decide)]
    unfold GatherDims.start
    rw [dif_neg (by rw [hsm]; decide)]
    subst hd
    exact (Nat.zero_add _).trans rfl
  · rw [d.batchCoord_eq_zero _ _ (by rw [hob]; decide), d.offCoord_eq_zero _ _ (fun h => ((d.mem_sKept _).mp h).1 (by rw [hco]; decide))]
    unfold GatherDims.start
    rw [dif_pos (show (2 : Fin 3) ∈ d.startIndexMap by rw [hsm]; decide)]
    have hi : ∀ z, d.siIdx (ix4 b c n r) z = ix4 b n r 0 := by
      intro z
      have hz : z.val = 0 := by
        have h1 := z.isLt
        have h2 : d.startIndexMap.length = 1 := by rw [hsm]; rfl
        omega
      subst hd
      funext e; refine Fin.ext ?_
      match e with
      | ⟨0, _⟩ => rfl
      | ⟨1, _⟩ => rfl
      | ⟨2, _⟩ => rfl
      | ⟨3, _⟩ => exact hz
    rw [hi, h]
    subst hd
    have hk := k.isLt
    have e : (BitVec.ofNat 32 k.val).toInt.toNat = k.val := by
      rw [BitVec.toInt_eq_toNat_of_lt (by simp only [BitVec.toNat_ofNat]; omega)]
      simp only [BitVec.toNat_ofNat, Int.toNat_natCast]
      omega
    rw [e]
    show min k.val 2047 + 0 + 0 = k.val
    omega

/-- The arguments hold the given real numbers. -/
structure Holds (V0 : Valuation τ sig (Elt Ideal)) (q : Fin 4 → Fin 64 → Fin 8192 → ℝ) (p : Fin 4 → Fin 64 → Fin 2048 → ℝ)
    (W : Fin 64 → Fin 64 → ℝ) (g1 β1 : Fin 64 → ℝ) (R : Fin 64 → Fin 128 → ℝ) (g2 β2 : Fin 64 → EReal) : Prop where
  a0 : ∀ b c n, (V0 (Proc.devRef .tc main_arg0) (ix3 b c n) : EReal) = (q b c n : EReal)
  a1 : ∀ b c m, (V0 (Proc.devRef .tc main_arg1) (ix3 b c m) : EReal) = (p b c m : EReal)
  a7 : ∀ o c, (V0 (Proc.devRef .tc main_arg7) (ix2 o c) : EReal) = (W o c : EReal)
  a8 : ∀ o, (V0 (Proc.devRef .tc main_arg8) (ix1 o) : EReal) = (g1 o : EReal)
  a9 : ∀ o, (V0 (Proc.devRef .tc main_arg9) (ix1 o) : EReal) = (β1 o : EReal)
  a10 : ∀ o c, (V0 (Proc.devRef .tc main_arg10) (ix2 o c) : EReal) = (R o c : EReal)
  a11 : ∀ o, (V0 (Proc.devRef .tc main_arg11) (ix1 o) : EReal) = g2 o
  a12 : ∀ o, (V0 (Proc.devRef .tc main_arg12) (ix1 o) : EReal) = β2 o

variable {V0 : Valuation τ sig (Elt Ideal)} {q : Fin 4 → Fin 64 → Fin 8192 → ℝ} {p : Fin 4 → Fin 64 → Fin 2048 → ℝ}
    {W : Fin 64 → Fin 64 → ℝ} {g1 β1 : Fin 64 → ℝ} {R : Fin 64 → Fin 128 → ℝ} {g2 β2 : Fin 64 → EReal}
    (H : Holds V0 q p W g1 β1 R g2 β2)
include H

/-- The first convolution. -/
theorem v1 (b : Fin 4) (o : Fin 64) (m : Fin 2048) : (res_main_v1 V0 (ix3 b o m) : EReal) = (conv p W b o m : EReal) := by
  unfold res_main_v1
  clean_types
  pointwise
  simp only [H.a1, H.a7, ← EReal.coe_mul, ← coe_sum]
  rfl

/-- Its deviation from the mean. -/
theorem c5 (b : Fin 4) (o : Fin 64) (m : Fin 2048) :
    (res_main_call0_v5 V0 (ix3 b o m) : EReal) = ((conv p W b o m - mu (fun b i => conv p W b o i) 8192 : ℝ) : EReal) := by
  unfold res_main_call0_v5
  clean_types
  pointwise
  rw [sum_outer]
  simp only [v1 H, ← coe_sum, zero_add, lit_8192, div_coe _ (show (8192 : ℝ) ≠ 0 by norm_num), ← EReal.coe_sub]
  rfl

omit H in
/-- The number of points the first variance divides by. -/
theorem c8 : (res_main_call0_v8 V0 ix0 : EReal) = ((8192 : ℝ) : EReal) := by
  unfold res_main_call0_v8
  clean_types
  pointwise
  rw [lit_8192, sitofp_zero, sub_zero]

/-- The first normalisation. -/
theorem v19 (b : Fin 4) (o : Fin 64) (m : Fin 2048) : (res_main_v19 V0 (ix3 b o m) : EReal) = (bn1 p W g1 β1 b o m : EReal) := by
  unfold res_main_v19
  clean_types
  pointwise
  rw [sum_outer, sum_outer]
  pointwise
  simp only [v1 H, c5 H, c8, H.a8, H.a9, ← coe_sum, ← EReal.coe_mul, zero_add, lit_8192, lit_eps]
  rw [div_coe _ (show (8192 : ℝ) ≠ 0 by norm_num)]
  exact norm_read (fun b i => conv p W b o i) 8192 (by norm_num) (g1 o) (β1 o) b m _

/-- The negated distances. -/
theorem v40 (b : Fin 4) (n : Fin 8192) (m : Fin 2048) : (res_main_v40 V0 (ix3 b n m) : EReal) = ((-dist q p b n m : ℝ) : EReal) := by
  unfold res_main_v40
  clean_types
  pointwise
  simp only [H.a0, H.a1, ← coe_sum, ← EReal.coe_mul, lit_two, ← EReal.coe_add, ← EReal.coe_sub, max_coe, ← EReal.coe_zero, ← EReal.coe_neg]
  rfl

/-- The positions of the least distances. -/
theorem neighbour (b : Fin 4) (n : Fin 8192) (r : Fin 2048) :
    order (fun m => (res_main_v40 V0 (ix3 b n m) : EReal)) r = near q p b n r := by
  unfold near
  congr 1
  funext m
  exact v40 H b n m

/-- The neighbours, as index words, -/
theorem v43 (b : Fin 4) (n : Fin 8192) (r : Fin 3) :
    (res_main_call2_v5 V0 (ix4 b n r 0) : BitVec 32) = BitVec.ofNat 32 (near q p b n (pos r)).val := by
  unfold res_main_call2_v5 res_main_v43
  clean_types
  pointwise
  erw [top_index (by decide)]
  rw [wrap, neighbour H]
  rfl

/-- their weights, -/
theorem v48 (b : Fin 4) (n : Fin 8192) (r : Fin 3) : (res_main_v48 V0 (ix3 b n r) : EReal) = (wt q p b n r : EReal) := by
  unfold res_main_v48
  clean_types
  pointwise
  erw [top_value (by decide)]
  rw [neighbour H, v40 H, lit_tiny, ← EReal.coe_neg, neg_neg, ← EReal.coe_add, ← EReal.coe_one, div_coe _ (near_den q p b n _)]
  rfl

/-- and the second convolution. -/
theorem v59 (b : Fin 4) (o : Fin 64) (n : Fin 8192) :
    (res_main_v59 V0 (ix3 b o n) : EReal) = (mix q p W g1 β1 R b o n : EReal) := by
  unfold res_main_v59
  clean_types
  pointwise
  have one : ∀ r : Fin 3, (Finset.univ : Finset (Fin 1)).fold IntOp.andi (1#1) (fun x =>
      IntOp.andi (IntOp.cmpi CmpIPredicate.sge (res_main_call2_v5 V0 (ix4 b n r x)) 0#32)
        (IntOp.cmpi CmpIPredicate.sle (res_main_call2_v5 V0 (ix4 b n r x)) 2047#32)) = 1#1 := by
    intro r
    rw [Finset.univ_unique, Finset.fold_singleton]
    show IntOp.andi (IntOp.andi (IntOp.cmpi _ (res_main_call2_v5 V0 (ix4 b n r 0)) _) (IntOp.cmpi _ (res_main_call2_v5 V0 (ix4 b n r 0)) _)) 1#1 = 1#1
    rw [v43 H b n r, in_range]
    rfl
  have look : ∀ (c : Fin 64) (r : Fin 3) (x : S4x64x2048.Idx → EReal),
      Host.gather gather_S4x64x2048_S4x8192x3x1_S4x64x8192x3_1_2_0_0_2_3_1641 x (res_main_call2_v5 V0) (ix4 b c n r) =
        x (ix3 b c (near q p b n (pos r))) := fun c r x => gather_read _ _ b c n r _ (v43 H b n r)
  simp only [one, look]
  pointwise
  simp only [v19 H, v48 H, H.a0, H.a10, lit_slope, leaky_read, ← coe_sum, div_coe _ (wt_sum_ne q p b n)]
  simp only [← coe_sum, ← EReal.coe_mul, ← EReal.coe_add]
  rfl

/-- Its deviation from the mean. -/
theorem c5' (b : Fin 4) (o : Fin 64) (n : Fin 8192) : (res_main_call3_v5 V0 (ix3 b o n) : EReal) =
    ((mix q p W g1 β1 R b o n - mu (fun b i => mix q p W g1 β1 R b o i) 32768 : ℝ) : EReal) := by
  unfold res_main_call3_v5
  clean_types
  pointwise
  rw [sum_outer]
  simp only [v59 H, ← coe_sum, zero_add, lit_32768, div_coe _ (show (32768 : ℝ) ≠ 0 by norm_num), ← EReal.coe_sub]
  rfl

omit H in
/-- The number of points the second variance divides by. -/
theorem c8' : (res_main_call3_v8 V0 ix0 : EReal) = ((32768 : ℝ) : EReal) := by
  unfold res_main_call3_v8
  clean_types
  pointwise
  rw [lit_32768, sitofp_zero, sub_zero]

/-- The second normalisation. -/
theorem v77 (b : Fin 4) (o : Fin 64) (n : Fin 8192) :
    (res_main_v77 V0 (ix3 b o n) : EReal) = bn2 q p W g1 β1 R g2 β2 b o n := by
  unfold res_main_v77
  clean_types
  pointwise
  rw [sum_outer, sum_outer]
  pointwise
  simp only [v59 H, c5' H, c8', H.a11, H.a12, ← coe_sum, ← EReal.coe_mul, zero_add, lit_32768, lit_eps]
  rw [div_coe _ (show (32768 : ℝ) ≠ 0 by norm_num)]
  exact norm_read_any (fun b i => mix q p W g1 β1 R b o i) 32768 (by norm_num) (g2 o) (β2 o) b n _

/-- The reference's result is `Spec.res`. -/
theorem result (b : Fin 4) (o : Fin 64) (n : Fin 8192) :
    (select (cmpf (F := Ideal) (φ := .f32) .oge (res_main_v77 V0) (broadcastInDim S4x64x8192 ![] bcast_S_S4x64x8192 (constant S_ .f32 0x00000000#32)))
      (res_main_v77 V0) (mulf (broadcastInDim S4x64x8192 ![] bcast_S_S4x64x8192 (constant S_ .f32 0x3E4CCCCD#32)) (res_main_v77 V0)) (ix3 b o n) : EReal) =
    res q p W g1 β1 R g2 β2 b o n := by
  pointwise
  simp only [v77 H, lit_slope]
  rfl

end Cert.ReferenceIdeal.Read

end
-- ==== Proof.Result.lean ====
/-
  The kernel program's result array from its arguments, and the reference's: the same numbers.
-/
module

public import proofs.«01_k».proof.Proof.Arrays
public import proofs.«01_k».proof.Proof.RefRead

@[expose] public section

set_option maxRecDepth 16384

noncomputable section

namespace Cert.KernelIdeal.Whole

open Cert.KernelIdeal Cert.KernelIdeal.Gen
open Cert.Reals Cert.Reads Cert.Spec Cert.Apart
open Idealize.ShloMosaic Idealize.ShloMosaic.TcCoe Idealize.ShloMosaic.Tactic

variable (m : (ℓ : Loc nD τ sig) → Buf (Elt Ideal) ℓ) (c : Dev nD)

/-- Two arrays with the same elements are one array. -/
theorem same {x z : Vec Ideal S4x64x8192 .f32} {f : Fin 4 → Fin 64 → Fin 8192 → EReal} (hx : ∀ b o n, (x (ix3 b o n) : EReal) = f b o n)
    (hz : ∀ b o n, (z (ix3 b o n) : EReal) = f b o n) : x = z := by
  funext y
  rw [show y = ix3 (y 0) (y 1) (y 2) by blk_ext]
  exact (hx _ _ _).trans (hz _ _ _).symm

/-! ## The columns the host makes of the four vectors -/

/-- The first normalisation's factor, -/
theorem col0 (o : Fin 64) : (W1 m c (Proc.devRef .tc main_v0) (ix2 o 0) : EReal) = m ((c : Thread nD τ).loc main_arg8) (ix1 o) := by
  unfold W1
  entry_read
  pointwise
/-- and its offset; -/
theorem col1 (o : Fin 64) : (W1 m c (Proc.devRef .tc main_v1) (ix2 o 0) : EReal) = m ((c : Thread nD τ).loc main_arg9) (ix1 o) := by
  unfold W1
  entry_read
  pointwise
/-- the second's factor, -/
theorem col2 (o : Fin 64) : (W1 m c (Proc.devRef .tc main_v2) (ix2 o 0) : EReal) = m ((c : Thread nD τ).loc main_arg11) (ix1 o) := by
  unfold W1
  entry_read
  pointwise
/-- and its offset. -/
theorem col3 (o : Fin 64) : (W1 m c (Proc.devRef .tc main_v3) (ix2 o 0) : EReal) = m ((c : Thread nD τ).loc main_arg12) (ix1 o) := by
  unfold W1
  entry_read
  pointwise

/-! ## The arrays after the calls -/

/-- An argument is as launched when the second call begins. -/
theorem kept (r : Ref sig .tc) (h : r ∉ hostOps0_W) (h4 : r ≠ main_v4) : W2 m c (Proc.devRef .tc r) = m ((c : Thread nD τ).loc r) :=
  (W2_of m c r h4).trans (W1_arg m c r h)

/-- A column the host made is as made when the third call begins. -/
theorem column (r : Ref sig .tc) (h4 : r ≠ main_v4) (h50 : r ≠ main_v5_0) (h51 : r ≠ main_v5_1) :
    W3 m c (Proc.devRef .tc r) = W1 m c (Proc.devRef .tc r) :=
  (W3_of m c r h50 h51).trans (W2_of m c r h4)

/-- The arguments are finite numbers but for the last scale and offset, and the neighbours of each fine point are apart. -/
structure Given (q : Fin 4 → Fin 64 → Fin 8192 → ℝ) (p : Fin 4 → Fin 64 → Fin 2048 → ℝ) (W : Fin 64 → Fin 64 → ℝ) (g1 β1 : Fin 64 → ℝ)
    (R : Fin 64 → Fin 128 → ℝ) (g2 β2 : Fin 64 → EReal) : Prop where
  a0 : ∀ b k n, (m ((c : Thread nD τ).loc main_arg0) (ix3 b k n) : EReal) = (q b k n : EReal)
  a1 : ∀ b k n, (m ((c : Thread nD τ).loc main_arg1) (ix3 b k n) : EReal) = (p b k n : EReal)
  a7 : ∀ o k, (m ((c : Thread nD τ).loc main_arg7) (ix2 o k) : EReal) = (W o k : EReal)
  a8 : ∀ o, (m ((c : Thread nD τ).loc main_arg8) (ix1 o) : EReal) = (g1 o : EReal)
  a9 : ∀ o, (m ((c : Thread nD τ).loc main_arg9) (ix1 o) : EReal) = (β1 o : EReal)
  a10 : ∀ o k, (m ((c : Thread nD τ).loc main_arg10) (ix2 o k) : EReal) = (R o k : EReal)
  a11 : ∀ o, (m ((c : Thread nD τ).loc main_arg11) (ix1 o) : EReal) = g2 o
  a12 : ∀ o, (m ((c : Thread nD τ).loc main_arg12) (ix1 o) : EReal) = β2 o
  apart : ∀ b n (r : Fin 3), Spec.dist q p b n (Spec.near q p b n (pos r)) < Spec.dist q p b n (Spec.near q p b n (next r))

variable {m c} {q : Fin 4 → Fin 64 → Fin 8192 → ℝ} {p : Fin 4 → Fin 64 → Fin 2048 → ℝ} {W : Fin 64 → Fin 64 → ℝ} {g1 β1 : Fin 64 → ℝ}
  {R : Fin 64 → Fin 128 → ℝ} {g2 β2 : Fin 64 → EReal} (H : Given m c q p W g1 β1 R g2 β2)
include H

/-- The coarse features, after the first call, -/
theorem features (b : Fin 4) (k : Fin 64) (n : Fin 2048) : (W2 m c (Proc.devRef .tc main_v4) (ix3 b k n) : EReal) = (feat p W g1 β1 b k n : EReal) := by
  have e : W2 m c (Proc.devRef .tc main_v4) = R0.block p W g1 β1 :=
    (Pipeline.afterRegion_arr (D0 m c) (W1 m c) launch0.win.arr_inj 4).trans (R0.arr_read
      (fun b k n => (congrFun (W1_arg m c main_arg1 (by decide)) _).trans (H.a1 b k n))
      (fun o k => (congrFun (W1_arg m c main_arg7 (by decide)) _).trans (H.a7 o k))
      (fun o => (col0 m c o).trans (H.a8 o)) (fun o => (col1 m c o).trans (H.a9 o)))
  rw [e]
  rfl

/-- the mixed features, after the second, -/
theorem mixes : W3 m c (Proc.devRef .tc main_v5_0) = R1.mixed (mix q p W g1 β1 R) :=
  (Pipeline.afterRegion_arr (D1 m c) (W2 m c) launch1.win.arr_inj 4).trans (R1.arrY_read
    (fun b k n => (congrFun (kept m c main_arg0 (by decide) (by decide)) _).trans (H.a0 b k n))
    (fun b k n => (congrFun (kept m c main_arg1 (by decide) (by decide)) _).trans (H.a1 b k n))
    (features H)
    (fun o k => (congrFun (kept m c main_arg10 (by decide) (by decide)) _).trans (H.a10 o k)) H.apart)

/-- and their sums, -/
theorem sums : W3 m c (Proc.devRef .tc main_v5_1) = R1.totals (mix q p W g1 β1 R) :=
  (Pipeline.afterRegion_arr (D1 m c) (W2 m c) launch1.win.arr_inj 5).trans (R1.arrT_read
    (fun b k n => (congrFun (kept m c main_arg0 (by decide) (by decide)) _).trans (H.a0 b k n))
    (fun b k n => (congrFun (kept m c main_arg1 (by decide) (by decide)) _).trans (H.a1 b k n))
    (features H)
    (fun o k => (congrFun (kept m c main_arg10 (by decide) (by decide)) _).trans (H.a10 o k)) H.apart)

/-- and the result, after the third. -/
theorem finish : W4 m c (Proc.devRef .tc main_v6) = R2.finished (mix q p W g1 β1 R) g2 β2 :=
  (Pipeline.afterRegion_arr (D2 m c) (W3 m c) launch2.win.arr_inj 4).trans (R2.arr_read (mixes H) (sums H)
    (fun o => (congrFun (column m c main_v2 (by decide) (by decide) (by decide)) _).trans ((col2 m c o).trans (H.a11 o)))
    (fun o => (congrFun (column m c main_v3 (by decide) (by decide) (by decide)) _).trans ((col3 m c o).trans (H.a12 o))))

/-- Each element of the result is `Spec.res`. -/
theorem result (b : Fin 4) (o : Fin 64) (n : Fin 8192) :
    (W4 m c (Proc.devRef .tc main_v6) (ix3 b o n) : EReal) = res q p W g1 β1 R g2 β2 b o n := by
  rw [finish H]
  rfl

end Cert.KernelIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Result
public import proofs.«01_k».proof.Proof.Gen.Pre_separated
public import Idealize.ShloMosaic.Adequacy
public import Idealize.ShloMosaic.Init

@[expose] public section

noncomputable section

namespace Cert.Proof

open Idealize.ShloMosaic Idealize.ShloMosaic.Tactic Idealize.SL.Sem

/-- The bits' program is the text of the ideal one, so a run of one is a run of the other. -/
theorem run_same (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      = θ_run (Cert.KernelIdeal.defs (F := Bits)) (onTc (τ := Cert.KernelIdeal.τ) (Cert.KernelIdeal.main (F := Bits))) ⟨m, fun _ => 0, g⟩ := by
  sl_kernel_rfl

/-- The kernel's frame at the machine's floats. -/
theorem frame_kernel : Cert.quiescent_Kernel := fun m g _ => by
  rw [run_same m g]
  exact Cert.KernelIdeal.Whole.frame (F := Bits) m g

/-- The reference's frame: its run, and it has no semaphore. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The value claim: from arguments that agree and meet the precondition, both results are the one array. -/
theorem value : Cert.algebraic_KernelIdeal_ReferenceIdeal_pre_separated := by
  intro m g m' g' hpre hargs
  refine ⟨fun c => Cert.KernelIdeal.Whole.W4 m c (Proc.devRef .tc Cert.KernelIdeal.main_v6), ?_, ?_⟩
  · exact (θ_run _ _ _).mono (fun r h c => ⟨h.1.2 c, h.1.1 c⟩) (Cert.KernelIdeal.Whole.run (F := Ideal) m g)
  · refine (θ_run _ _ _).mono (fun r h c => ⟨(h c).1.trans ?_, (h c).2⟩) (Cert.ReferenceIdeal.Value.run (F := Ideal) m' g')
    have S := Cert.Apart.said _ _ _ _ _ _ _ _ _ _ _ _ _ (hpre c)
    obtain ⟨k0, k1, -, -, -, -, -, k7, k8, k9, k10, k11, k12⟩ := hargs c
    have G : Cert.KernelIdeal.Whole.Given m c _ _ _ _ _ _ _ _ := ⟨S.f0, S.f1, S.f7, S.f8, S.f9, S.f10, fun _ => rfl, fun _ => rfl, S.apart⟩
    have R := Cert.ReferenceIdeal.Read.result (V0 := StableHlo.launchContents m' c)
      ⟨fun b k n => (congrFun k0 _).trans (S.f0 b k n), fun b k n => (congrFun k1 _).trans (S.f1 b k n),
        fun o k => (congrFun k7 _).trans (S.f7 o k), fun o => (congrFun k8 _).trans (S.f8 o), fun o => (congrFun k9 _).trans (S.f9 o),
        fun o k => (congrFun k10 _).trans (S.f10 o k), fun _ => congrFun k11 _, fun _ => congrFun k12 _⟩
    exact Cert.KernelIdeal.Whole.same R (Cert.KernelIdeal.Whole.result G)

/-- The certificate. -/
theorem claim : Cert.Claim := ⟨Cert.Kernel.Gen.facts, Cert.KernelIdeal.Gen.facts, Cert.ReferenceIdeal.Gen.facts, Cert.Pre_separated.Gen.facts,
  frame_kernel, fun m g _ => Cert.KernelIdeal.Whole.frame (F := Ideal) m g, fun m g _ => Cert.KernelIdeal.Whole.frame (F := Ideal) m g,
  frame_reference, fun m g _ => frame_reference m g trivial, trivial, value⟩

end Cert.Proof

end
